-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_rows_in_range : Cert.Pre_rows_in_range.Facts) (hPre_in_range : Cert.Pre_in_range.Facts),
    quiescent_Kernel (hKernel := hKernel) (hPre_rows_in_range := hPre_rows_in_range)
    ∧ quiescent_KernelIdeal (hKernelIdeal := hKernelIdeal) (hPre_rows_in_range := hPre_rows_in_range)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S128x32768x4 : Shape := ⟨3, ![128, 32768, 4]⟩
abbrev S32x3 : Shape := ⟨2, ![32, 3]⟩
abbrev S32 : Shape := ⟨1, ![32]⟩
abbrev S1x32 : Shape := ⟨2, ![1, 32]⟩
abbrev S1 : Shape := ⟨1, ![1]⟩
abbrev S128x2 : Shape := ⟨2, ![128, 2]⟩
abbrev S128x32768x1 : Shape := ⟨3, ![128, 32768, 1]⟩
abbrev S128x32768 : Shape := ⟨2, ![128, 32768]⟩
abbrev S_ : Shape := ⟨0, ![]⟩

class Facts : Prop where
  slices_S128x32768x4_S128x32768x1_0_0_0 : S128x32768x4.Slices ![0, 0, 0] S128x32768x1
  shapeCasts_S128x32768x1_S128x32768 : S128x32768x1.ShapeCasts S128x32768
  bcast_S_S128x32768 : S_.BroadcastsInDim S128x32768 (![] : Fin 0 → Fin S128x32768.rank)
  reducesTo_S128x32768_S_d0_1 : S128x32768.ReducesTo [0, 1] S_
  h_S_ : 0 < S_.numel
  bcast_S_S128x2 : S_.BroadcastsInDim S128x2 (![] : Fin 0 → Fin S128x2.rank)
  reducesTo_S128x2_S_d0_1 : S128x2.ReducesTo [0, 1] S_

variable [Facts]

def fn {F : FTy → Type} [FloatOps F] (main_arg0 : FVec F S128x32768x4 .f32) (main_arg1 : FVec F S32x3 .f32) (main_arg2 : FVec F S32 .f32) (main_arg3 : FVec F S1x32 .f32) (main_arg4 : FVec F S1 .f32) (main_arg5 : FVec F S32x3 .f32) (main_arg6 : FVec F S32 .f32) (main_arg7 : FVec F S1x32 .f32) (main_arg8 : FVec F S1 .f32) (main_arg9 : IVec S128x2 32) : IVec S_ 1 :=
  let main_v0 : FVec F S128x32768x1 .f32 := (extractStridedSlice S128x32768x1 ![0, 0, 0] · slices_S128x32768x4_S128x32768x1_0_0_0) main_arg0
  let main_v1 : FVec F S128x32768 .f32 := shapeCast S128x32768 main_v0 shapeCasts_S128x32768x1_S128x32768
  let main_v2 : IVec S128x32768 32 := fptosi 32 main_v1
  let main_c : IVec S_ 32 := constantI S_ 32 0#32
  let main_v3 : IVec S128x32768 32 := broadcastInDim S128x32768 ![] bcast_S_S128x32768 main_c
  let main_v4 : IVec S128x32768 1 := cmpi .sge main_v2 main_v3
  let main_c_0 : IVec S_ 32 := constantI S_ 32 32768#32
  let main_v5 : IVec S128x32768 32 := broadcastInDim S128x32768 ![] bcast_S_S128x32768 main_c_0
  let main_v6 : IVec S128x32768 1 := cmpi .slt main_v2 main_v5
  let main_v7 : IVec S128x32768 1 := andi main_v4 main_v6
  let main_c_1 : IVec S_ 1 := constantI S_ 1 1#1
  let main_v8 : IVec S_ 1 := (fun x v => Host.reduce IntOp.andi x v reducesTo_S128x32768_S_d0_1 h_S_) main_v7 main_c_1
  let main_c_2 : IVec S_ 32 := constantI S_ 32 0#32
  let main_v9 : IVec S128x2 32 := broadcastInDim S128x2 ![] bcast_S_S128x2 main_c_2
  let main_v10 : IVec S128x2 1 := cmpi .sge main_arg9 main_v9
  let main_c_3 : IVec S_ 32 := constantI S_ 32 32768#32
  let main_v11 : IVec S128x2 32 := broadcastInDim S128x2 ![] bcast_S_S128x2 main_c_3
  let main_v12 : IVec S128x2 1 := cmpi .slt main_arg9 main_v11
  let main_v13 : IVec S128x2 1 := andi main_v10 main_v12
  let main_c_4 : IVec S_ 1 := constantI S_ 1 1#1
  let main_v14 : IVec S_ 1 := (fun x v => Host.reduce IntOp.andi x v reducesTo_S128x2_S_d0_1 h_S_) main_v13 main_c_4
  let main_v15 : IVec S_ 1 := andi main_v8 main_v14
  main_v15
-- ==== Pre_rows_in_range.lean ====
abbrev S128x32768x4 : Shape := ⟨3, ![128, 32768, 4]⟩
abbrev S32x3 : Shape := ⟨2, ![32, 3]⟩
abbrev S32 : Shape := ⟨1, ![32]⟩
abbrev S1x32 : Shape := ⟨2, ![1, 32]⟩
abbrev S1 : Shape := ⟨1, ![1]⟩
abbrev S128x2 : Shape := ⟨2, ![128, 2]⟩
abbrev S128x32768x1 : Shape := ⟨3, ![128, 32768, 1]⟩
abbrev S128x32768 : Shape := ⟨2, ![128, 32768]⟩
abbrev S_ : Shape := ⟨0, ![]⟩

class Facts : Prop where
  slices_S128x32768x4_S128x32768x1_0_0_0 : S128x32768x4.Slices ![0, 0, 0] S128x32768x1
  shapeCasts_S128x32768x1_S128x32768 : S128x32768x1.ShapeCasts S128x32768
  bcast_S_S128x32768 : S_.BroadcastsInDim S128x32768 (![] : Fin 0 → Fin S128x32768.rank)
  reducesTo_S128x32768_S_d0_1 : S128x32768.ReducesTo [0, 1] S_
  h_S_ : 0 < S_.numel

variable [Facts]

def fn {F : FTy → Type} [FloatOps F] (main_arg0 : FVec F S128x32768x4 .f32) (main_arg1 : FVec F S32x3 .f32) (main_arg2 : FVec F S32 .f32) (main_arg3 : FVec F S1x32 .f32) (main_arg4 : FVec F S1 .f32) (main_arg5 : FVec F S32x3 .f32) (main_arg6 : FVec F S32 .f32) (main_arg7 : FVec F S1x32 .f32) (main_arg8 : FVec F S1 .f32) (main_arg9 : IVec S128x2 32) : IVec S_ 1 :=
  let main_v0 : FVec F S128x32768x1 .f32 := (extractStridedSlice S128x32768x1 ![0, 0, 0] · slices_S128x32768x4_S128x32768x1_0_0_0) main_arg0
  let main_v1 : FVec F S128x32768 .f32 := shapeCast S128x32768 main_v0 shapeCasts_S128x32768x1_S128x32768
  let main_v2 : IVec S128x32768 32 := fptosi 32 main_v1
  let main_c : IVec S_ 32 := constantI S_ 32 0#32
  let main_v3 : IVec S128x32768 32 := broadcastInDim S128x32768 ![] bcast_S_S128x32768 main_c
  let main_v4 : IVec S128x32768 1 := cmpi .sge main_v2 main_v3
  let main_c_0 : IVec S_ 32 := constantI S_ 32 32768#32
  let main_v5 : IVec S128x32768 32 := broadcastInDim S128x32768 ![] bcast_S_S128x32768 main_c_0
  let main_v6 : IVec S128x32768 1 := cmpi .slt main_v2 main_v5
  let main_v7 : IVec S128x32768 1 := andi main_v4 main_v6
  let main_c_1 : IVec S_ 1 := constantI S_ 1 1#1
  let main_v8 : IVec S_ 1 := (fun x v => Host.reduce IntOp.andi x v reducesTo_S128x32768_S_d0_1 h_S_) main_v7 main_c_1
  main_v8
-- ==== Kernel.lean ====
abbrev S128x32768x4 : Shape := ⟨3, ![128, 32768, 4]⟩
abbrev S32x3 : Shape := ⟨2, ![32, 3]⟩
abbrev S32 : Shape := ⟨1, ![32]⟩
abbrev S1x32 : Shape := ⟨2, ![1, 32]⟩
abbrev S1 : Shape := ⟨1, ![1]⟩
abbrev S128x2 : Shape := ⟨2, ![128, 2]⟩
abbrev S128x32768x1 : Shape := ⟨3, ![128, 32768, 1]⟩
abbrev S128x32768 : Shape := ⟨2, ![128, 32768]⟩
abbrev S32768 : Shape := ⟨1, ![32768]⟩
abbrev S_ : Shape := ⟨0, ![]⟩
abbrev S1x32768 : Shape := ⟨2, ![1, 32768]⟩
abbrev S16 : Shape := ⟨1, ![16]⟩
abbrev S128x256x128 : Shape := ⟨3, ![128, 256, 128]⟩
abbrev S128x1x2 : Shape := ⟨3, ![128, 1, 2]⟩
abbrev S128x1x1 : Shape := ⟨3, ![128, 1, 1]⟩
abbrev S1x1x2 : Shape := ⟨3, ![1, 1, 2]⟩
abbrev S1x256x128 : Shape := ⟨3, ![1, 256, 128]⟩
abbrev S1x1x1 : Shape := ⟨3, ![1, 1, 1]⟩
abbrev S256x128 : Shape := ⟨2, ![256, 128]⟩
abbrev S1x1 : Shape := ⟨2, ![1, 1]⟩
abbrev S128 : Shape := ⟨1, ![128]⟩

abbrev nBuf : Table → Nat
  | .hbm => 27
  | .local .tc .vmem => 8
  | .local .tc .smem => 12
  | .local .scVector .vmem => 3
  | _ => 0

abbrev bufTy : (tb : Table) → Fin (nBuf tb) → BufTy
  | .hbm, ⟨0, _⟩ => ⟨S128x32768x4, .f32⟩
  | .hbm, ⟨1, _⟩ => ⟨S32x3, .f32⟩
  | .hbm, ⟨2, _⟩ => ⟨S32, .f32⟩
  | .hbm, ⟨3, _⟩ => ⟨S1x32, .f32⟩
  | .hbm, ⟨4, _⟩ => ⟨S1, .f32⟩
  | .hbm, ⟨5, _⟩ => ⟨S32x3, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S128x2, .i32⟩
  | .hbm, ⟨10, _⟩ => ⟨S128x32768x1, .f32⟩
  | .hbm, ⟨11, _⟩ => ⟨S128x32768, .f32⟩
  | .hbm, ⟨12, _⟩ => ⟨S128x32768, .i32⟩
  | .hbm, ⟨13, _⟩ => ⟨S128x32768x1, .f32⟩
  | .hbm, ⟨14, _⟩ => ⟨S128x32768, .f32⟩
  | .hbm, ⟨15, _⟩ => ⟨S128x32768x1, .f32⟩
  | .hbm, ⟨16, _⟩ => ⟨S128x32768, .f32⟩
  | .hbm, ⟨17, _⟩ => ⟨S128x32768x1, .f32⟩
  | .hbm, ⟨18, _⟩ => ⟨S128x32768, .f32⟩
  | .hbm, ⟨19, _⟩ => ⟨S128x32768, .f32⟩
  | .hbm, ⟨20, _⟩ => ⟨S128x256x128, .f32⟩
  | .hbm, ⟨21, _⟩ => ⟨S128x256x128, .f32⟩
  | .hbm, ⟨22, _⟩ => ⟨S128x256x128, .f32⟩
  | .hbm, ⟨23, _⟩ => ⟨S128x256x128, .f32⟩
  | .hbm, ⟨24, _⟩ => ⟨S128x1x2, .i32⟩
  | .hbm, ⟨25, _⟩ => ⟨S128x1x1, .f32⟩
  | .hbm, ⟨26, _⟩ => ⟨S128, .f32⟩
  | .local .tc .vmem, ⟨0, _⟩ => ⟨S1x256x128, .f32⟩
  | .local .tc .vmem, ⟨1, _⟩ => ⟨S1x256x128, .f32⟩
  | .local .tc .vmem, ⟨2, _⟩ => ⟨S1x256x128, .f32⟩
  | .local .tc .vmem, ⟨3, _⟩ => ⟨S1x256x128, .f32⟩
  | .local .tc .vmem, ⟨4, _⟩ => ⟨S1x256x128, .f32⟩
  | .local .tc .vmem, ⟨5, _⟩ => ⟨S1x256x128, .f32⟩
  | .local .tc .vmem, ⟨6, _⟩ => ⟨S1x256x128, .f32⟩
  | .local .tc .vmem, ⟨7, _⟩ => ⟨S1x256x128, .f32⟩
  | .local .tc .smem, ⟨0, _⟩ => ⟨S1x1x2, .i32⟩
  | .local .tc .smem, ⟨1, _⟩ => ⟨S1x1x2, .i32⟩
  | .local .tc .smem, ⟨2, _⟩ => ⟨S32x3, .f32⟩
  | .local .tc .smem, ⟨3, _⟩ => ⟨S32, .f32⟩
  | .local .tc .smem, ⟨4, _⟩ => ⟨S1x32, .f32⟩
  | .local .tc .smem, ⟨5, _⟩ => ⟨S1, .f32⟩
  | .local .tc .smem, ⟨6, _⟩ => ⟨S32x3, .f32⟩
  | .local .tc .smem, ⟨7, _⟩ => ⟨S32, .f32⟩
  | .local .tc .smem, ⟨8, _⟩ => ⟨S1x32, .f32⟩
  | .local .tc .smem, ⟨9, _⟩ => ⟨S1, .f32⟩
  | .local .tc .smem, ⟨10, _⟩ => ⟨S1x1x1, .f32⟩
  | .local .tc .smem, ⟨11, _⟩ => ⟨S1x1x1, .f32⟩
  | .local .scVector .vmem, ⟨0, _⟩ => ⟨S32768, .f32⟩
  | .local .scVector .vmem, ⟨1, _⟩ => ⟨S32768, .i32⟩
  | .local .scVector .vmem, ⟨2, _⟩ => ⟨S32768, .f32⟩
  | _, _ => ⟨S128x32768x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | .smem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v6_scv : Ref sig .scVector := ⟨.hbm, 16, rfl⟩
abbrev main_v2_scv : Ref sig .scVector := ⟨.hbm, 12, rfl⟩
abbrev main_v9_scv : Ref sig .scVector := ⟨.hbm, 19, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_stg4_1 : Ref sig .tc := ⟨.vmem, 7, rfl⟩
abbrev cc1_stg0_0 : Ref sig .tc := ⟨.smem, 0, rfl⟩
abbrev cc1_stg0_1 : Ref sig .tc := ⟨.smem, 1, rfl⟩
abbrev cc1_stg5_0 : Ref sig .tc := ⟨.smem, 2, rfl⟩
abbrev cc1_stg6_0 : Ref sig .tc := ⟨.smem, 3, rfl⟩
abbrev cc1_stg7_0 : Ref sig .tc := ⟨.smem, 4, rfl⟩
abbrev cc1_stg8_0 : Ref sig .tc := ⟨.smem, 5, rfl⟩
abbrev cc1_stg9_0 : Ref sig .tc := ⟨.smem, 6, rfl⟩
abbrev cc1_stg10_0 : Ref sig .tc := ⟨.smem, 7, rfl⟩
abbrev cc1_stg11_0 : Ref sig .tc := ⟨.smem, 8, rfl⟩
abbrev cc1_stg12_0 : Ref sig .tc := ⟨.smem, 9, rfl⟩
abbrev cc1_stg13_0 : Ref sig .tc := ⟨.smem, 10, rfl⟩
abbrev cc1_stg13_1 : Ref sig .tc := ⟨.smem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem13_1 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_3 : BitVec 32 := 4#32
  let v5 : BitVec 32 := Scalar.muli v1 c4_i32_3
  let c0_i32_2 : BitVec 32 := 0#32
  let c0_i32 : BitVec 32 := 0#32
  let c1_i32 : BitVec 32 := 1#32
  let arg10 : BitVec 32 := Scf.iv c0_i32 c1_i32 k0_t1
  let c1_i32_1 : BitVec 32 := 1#32
  let v3 : BitVec 32 := Scalar.muli arg10 c1_i32_1
  let v4 : BitVec 32 := Scalar.addi c0_i32_2 v3
  let v6 : BitVec 32 := Scalar.addi v5 v4
  let c0_i32_4 : BitVec 32 := 0#32
  ![v6.toNat, 0]
@[reducible] def k0_t2_loop : Scf.Loop 32 :=
  let c0_i32_12 : BitVec 32 := 0#32
  let c2048_i32 : BitVec 32 := 2048#32
  let v23 : BitVec 32 := Scalar.addi c0_i32_12 c2048_i32
  let c1_i32_13 : BitVec 32 := 1#32
  ⟨c0_i32_12, v23, c1_i32_13⟩
def k0_off2 (k0_t2 : Fin k0_t2_loop.trips) : Fin 1 → Nat :=
  let c0_i32_15 : BitVec 32 := 0#32
  let c0_i32_12 : BitVec 32 := 0#32
  let c1_i32_13 : BitVec 32 := 1#32
  let arg11 : BitVec 32 := Scf.iv c0_i32_12 c1_i32_13 k0_t2
  let c16_i32 : BitVec 32 := 16#32
  let v24 : BitVec 32 := Scalar.muli arg11 c16_i32
  let v25 : BitVec 32 := Scalar.addi c0_i32_15 v24
  let v26 : Index := Scalar.indexCast v25
  ![v26.toNat]

def k0_chk1 (v27 : IVec S16 32) : Prop :=
  (∀ a x, ((![v27] : Fin 1 → IVec S16 32) a x).toNat < S32768.size a)
theorem k0_idx1_inb : ∀ (v27 : IVec S16 32) (k0_hw1 : k0_chk1 v27), ∀ a x, ((![v27] : Fin 1 → IVec S16 32) a x).toNat < S32768.size a := fun v27 k0_hw1 => k0_hw1
def k0_off3 (k0_t2 : Fin k0_t2_loop.trips) : Fin 1 → Nat :=
  let c0_i32_15 : BitVec 32 := 0#32
  let c0_i32_12 : BitVec 32 := 0#32
  let c1_i32_13 : BitVec 32 := 1#32
  let arg11 : BitVec 32 := Scf.iv c0_i32_12 c1_i32_13 k0_t2
  let c16_i32 : BitVec 32 := 16#32
  let v24 : BitVec 32 := Scalar.muli arg11 c16_i32
  let v25 : BitVec 32 := Scalar.addi c0_i32_15 v24
  let v29 : Index := Scalar.indexCast v25
  ![v29.toNat]
abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .smem S1x1x2 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .smem S32x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .smem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .smem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .smem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .smem S32x3 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .smem S32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .smem S1x32 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .smem S1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .smem S1x1x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x32768x4 : Shape := ⟨3, ![128, 32768, 4]⟩
abbrev S32x3 : Shape := ⟨2, ![32, 3]⟩
abbrev S32 : Shape := ⟨1, ![32]⟩
abbrev S1x32 : Shape := ⟨2, ![1, 32]⟩
abbrev S1 : Shape := ⟨1, ![1]⟩
abbrev S128x2 : Shape := ⟨2, ![128, 2]⟩
abbrev S128x32768x1 : Shape := ⟨3, ![128, 32768, 1]⟩
abbrev S128x1 : Shape := ⟨2, ![128, 1]⟩
abbrev S128 : Shape := ⟨1, ![128]⟩
abbrev S_ : Shape := ⟨0, ![]⟩
abbrev S1x1x1 : Shape := ⟨3, ![1, 1, 1]⟩
abbrev S128x32768 : Shape := ⟨2, ![128, 32768]⟩
abbrev S128x32768x3 : Shape := ⟨3, ![128, 32768, 3]⟩
abbrev S3x32 : Shape := ⟨2, ![3, 32]⟩
abbrev S128x32768x32 : Shape := ⟨3, ![128, 32768, 32]⟩
abbrev S1x1x32 : Shape := ⟨3, ![1, 1, 32]⟩
abbrev S32x1 : Shape := ⟨2, ![32, 1]⟩
abbrev S128x1x1 : Shape := ⟨3, ![128, 1, 1]⟩

abbrev nBuf : Space → Nat
  | .hbm => 209
  | .vmem => 0
  | .smem => 0
  | _ => 0

abbrev hbmTy0_0 (i : Nat) : BufTy := match i % 128 with
  | 0 => ⟨S128x32768x4, .f32⟩
  | 1 => ⟨S32x3, .f32⟩
  | 2 => ⟨S32, .f32⟩
  | 3 => ⟨S1x32, .f32⟩
  | 4 => ⟨S1, .f32⟩
  | 5 => ⟨S32x3, .f32⟩
  | 6 => ⟨S32, .f32⟩
  | 7 => ⟨S1x32, .f32⟩
  | 8 => ⟨S1, .f32⟩
  | 9 => ⟨S128x2, .i32⟩
  | 10 => ⟨S128x32768x1, .f32⟩
  | 11 => ⟨S128x32768x1, .f32⟩
  | 12 => ⟨S128x32768x1, .f32⟩
  | 13 => ⟨S128x32768x1, .f32⟩
  | 14 => ⟨S128x1, .i32⟩
  | 15 => ⟨S128, .i32⟩
  | 16 => ⟨S128x1, .i32⟩
  | 17 => ⟨S128, .i32⟩
  | 18 => ⟨S128x32768x1, .i32⟩
  | 19 => ⟨S_, .i32⟩
  | 20 => ⟨S128x32768x1, .i32⟩
  | 21 => ⟨S128x32768x1, .i1⟩
  | 22 => ⟨S_, .i32⟩
  | 23 => ⟨S128x32768x1, .i32⟩
  | 24 => ⟨S128x32768x1, .i32⟩
  | 25 => ⟨S128x32768x1, .i32⟩
  | 26 => ⟨S1, .i32⟩
  | 27 => ⟨S_, .i32⟩
  | 28 => ⟨S128x32768x1, .i32⟩
  | 29 => ⟨S128x32768x1, .i1⟩
  | 30 => ⟨S1x1x1, .i32⟩
  | 31 => ⟨S128x32768x1, .i32⟩
  | 32 => ⟨S128x32768x1, .i1⟩
  | 33 => ⟨S128x32768x1, .i1⟩
  | 34 => ⟨S_, .i1⟩
  | 35 => ⟨S128x32768, .i1⟩
  | 36 => ⟨S128x32768x1, .f32⟩
  | 37 => ⟨S128x32768x1, .i1⟩
  | 38 => ⟨S_, .f32⟩
  | 39 => ⟨S128x32768x1, .f32⟩
  | 40 => ⟨S128x32768x1, .f32⟩
  | 41 => ⟨S128x32768x3, .f32⟩
  | 42 => ⟨S3x32, .f32⟩
  | 43 => ⟨S128x32768x32, .f32⟩
  | 44 => ⟨S1x1x32, .f32⟩
  | 45 => ⟨S128x32768x32, .f32⟩
  | 46 => ⟨S128x32768x32, .f32⟩
  | 47 => ⟨S_, .f32⟩
  | 48 => ⟨S128x32768x32, .f32⟩
  | 49 => ⟨S128x32768x32, .f32⟩
  | 50 => ⟨S32x1, .f32⟩
  | 51 => ⟨S128x32768x1, .f32⟩
  | 52 => ⟨S1x1x1, .f32⟩
  | 53 => ⟨S128x32768x1, .f32⟩
  | 54 => ⟨S128x32768x1, .f32⟩
  | 55 => ⟨S128x32768, .f32⟩
  | 56 => ⟨S_, .f32⟩
  | 57 => ⟨S128, .f32⟩
  | 58 => ⟨S_, .f32⟩
  | 59 => ⟨S128, .f32⟩
  | 60 => ⟨S128, .f32⟩
  | 61 => ⟨S128x1, .f32⟩
  | 62 => ⟨S128x32768, .f32⟩
  | 63 => ⟨S128x32768, .f32⟩
  | 64 => ⟨S128x32768, .f32⟩
  | 65 => ⟨S_, .f32⟩
  | 66 => ⟨S128, .f32⟩
  | 67 => ⟨S128x1, .f32⟩
  | 68 => ⟨S128x32768, .f32⟩
  | 69 => ⟨S128x32768, .f32⟩
  | 70 => ⟨S128x1, .i32⟩
  | 71 => ⟨S_, .i32⟩
  | 72 => ⟨S128x1, .i32⟩
  | 73 => ⟨S128x1, .i1⟩
  | 74 => ⟨S_, .i32⟩
  | 75 => ⟨S128x1, .i32⟩
  | 76 => ⟨S128x1, .i32⟩
  | 77 => ⟨S128x1, .i32⟩
  | 78 => ⟨S128x1x1, .i32⟩
  | 79 => ⟨S1, .i32⟩
  | 80 => ⟨S_, .i32⟩
  | 81 => ⟨S128x1x1, .i32⟩
  | 82 => ⟨S128x1x1, .i1⟩
  | 83 => ⟨S1x1x1, .i32⟩
  | 84 => ⟨S128x1x1, .i32⟩
  | 85 => ⟨S128x1x1, .i1⟩
  | 86 => ⟨S128x1x1, .i1⟩
  | 87 => ⟨S_, .i1⟩
  | 88 => ⟨S128x1, .i1⟩
  | 89 => ⟨S128x1, .f32⟩
  | 90 => ⟨S_, .f32⟩
  | 91 => ⟨S128x1, .f32⟩
  | 92 => ⟨S128x1, .f32⟩
  | 93 => ⟨S128x1, .f32⟩
  | 94 => ⟨S128x32768, .f32⟩
  | 95 => ⟨S128x1, .i32⟩
  | 96 => ⟨S_, .i32⟩
  | 97 => ⟨S128x1, .i32⟩
  | 98 => ⟨S128x1, .i1⟩
  | 99 => ⟨S_, .i32⟩
  | 100 => ⟨S128x1, .i32⟩
  | 101 => ⟨S128x1, .i32⟩
  | 102 => ⟨S128x1, .i32⟩
  | 103 => ⟨S128x1x1, .i32⟩
  | 104 => ⟨S1, .i32⟩
  | 105 => ⟨S_, .i32⟩
  | 106 => ⟨S128x1x1, .i32⟩
  | 107 => ⟨S128x1x1, .i1⟩
  | 108 => ⟨S1x1x1, .i32⟩
  | 109 => ⟨S128x1x1, .i32⟩
  | 110 => ⟨S128x1x1, .i1⟩
  | 111 => ⟨S128x1x1, .i1⟩
  | 112 => ⟨S_, .i1⟩
  | 113 => ⟨S128x1, .i1⟩
  | 114 => ⟨S128x1, .f32⟩
  | 115 => ⟨S_, .f32⟩
  | 116 => ⟨S128x1, .f32⟩
  | 117 => ⟨S128x1, .f32⟩
  | 118 => ⟨S128x1x1, .f32⟩
  | 119 => ⟨S128x32768x1, .f32⟩
  | 120 => ⟨S128x32768x3, .f32⟩
  | 121 => ⟨S128x32768, .f32⟩
  | 122 => ⟨S128x32768, .f32⟩
  | 123 => ⟨S128x32768, .f32⟩
  | 124 => ⟨S_, .f32⟩
  | 125 => ⟨S128x32768, .f32⟩
  | 126 => ⟨S128x32768, .i1⟩
  | 127 => ⟨S_, .f32⟩
  | _ => ⟨S128x32768x4, .f32⟩

abbrev hbmTy0_1 (i : Nat) : BufTy := match i % 128 with
  | 0 => ⟨S_, .f32⟩
  | 1 => ⟨S_, .f32⟩
  | 2 => ⟨S128x32768, .f32⟩
  | 3 => ⟨S128x32768, .f32⟩
  | 4 => ⟨S128x32768, .f32⟩
  | 5 => ⟨S128, .i32⟩
  | 6 => ⟨S_, .i32⟩
  | 7 => ⟨S128, .i32⟩
  | 8 => ⟨S128, .i1⟩
  | 9 => ⟨S_, .i32⟩
  | 10 => ⟨S128, .i32⟩
  | 11 => ⟨S128, .i32⟩
  | 12 => ⟨S128, .i32⟩
  | 13 => ⟨S_, .i32⟩
  | 14 => ⟨S128, .i32⟩
  | 15 => ⟨S128, .i1⟩
  | 16 => ⟨S_, .i32⟩
  | 17 => ⟨S128, .i32⟩
  | 18 => ⟨S128, .i32⟩
  | 19 => ⟨S128, .i32⟩
  | 20 => ⟨S128x1, .i32⟩
  | 21 => ⟨S128x1, .i32⟩
  | 22 => ⟨S128x2, .i32⟩
  | 23 => ⟨S_, .f32⟩
  | 24 => ⟨S128, .f32⟩
  | 25 => ⟨S128x32768, .f32⟩
  | 26 => ⟨S3x32, .f32⟩
  | 27 => ⟨S128x32768x32, .f32⟩
  | 28 => ⟨S1x1x32, .f32⟩
  | 29 => ⟨S128x32768x32, .f32⟩
  | 30 => ⟨S128x32768x32, .f32⟩
  | 31 => ⟨S_, .f32⟩
  | 32 => ⟨S128x32768x32, .f32⟩
  | 33 => ⟨S128x32768x32, .f32⟩
  | 34 => ⟨S32x1, .f32⟩
  | 35 => ⟨S128x32768x1, .f32⟩
  | 36 => ⟨S1x1x1, .f32⟩
  | 37 => ⟨S128x32768x1, .f32⟩
  | 38 => ⟨S128x32768x1, .f32⟩
  | 39 => ⟨S128x32768, .f32⟩
  | 40 => ⟨S128x32768, .f32⟩
  | 41 => ⟨S_, .f32⟩
  | 42 => ⟨S128, .f32⟩
  | 43 => ⟨S_, .f32⟩
  | 44 => ⟨S128, .f32⟩
  | 45 => ⟨S128, .f32⟩
  | 46 => ⟨S128x1, .f32⟩
  | 47 => ⟨S128x32768, .f32⟩
  | 48 => ⟨S128x32768, .f32⟩
  | 49 => ⟨S128x32768, .f32⟩
  | 50 => ⟨S_, .f32⟩
  | 51 => ⟨S128, .f32⟩
  | 52 => ⟨S128x1, .f32⟩
  | 53 => ⟨S128x32768, .f32⟩
  | 54 => ⟨S128x32768, .f32⟩
  | 55 => ⟨S128x1, .i32⟩
  | 56 => ⟨S_, .i32⟩
  | 57 => ⟨S128x1, .i32⟩
  | 58 => ⟨S128x1, .i1⟩
  | 59 => ⟨S_, .i32⟩
  | 60 => ⟨S128x1, .i32⟩
  | 61 => ⟨S128x1, .i32⟩
  | 62 => ⟨S128x1, .i32⟩
  | 63 => ⟨S128x1x1, .i32⟩
  | 64 => ⟨S1, .i32⟩
  | 65 => ⟨S_, .i32⟩
  | 66 => ⟨S128x1x1, .i32⟩
  | 67 => ⟨S128x1x1, .i1⟩
  | 68 => ⟨S1x1x1, .i32⟩
  | 69 => ⟨S128x1x1, .i32⟩
  | 70 => ⟨S128x1x1, .i1⟩
  | 71 => ⟨S128x1x1, .i1⟩
  | 72 => ⟨S_, .i1⟩
  | 73 => ⟨S128x1, .i1⟩
  | 74 => ⟨S128x1, .f32⟩
  | 75 => ⟨S_, .f32⟩
  | 76 => ⟨S128x1, .f32⟩
  | 77 => ⟨S128x1, .f32⟩
  | 78 => ⟨S128x1, .f32⟩
  | 79 => ⟨S128x1, .f32⟩
  | 80 => ⟨S128, .f32⟩
  | _ => ⟨S128x32768x4, .f32⟩

abbrev hbmTy (i : Nat) : BufTy := match i / 128 with
  | 0 => hbmTy0_0 i
  | 1 => hbmTy0_1 i
  | _ => ⟨S128x32768x4, .f32⟩

abbrev bufTy : (tb : Table) → Fin (tcTables nBuf tb) → BufTy
  | .hbm, ⟨i, _⟩ => hbmTy i
  | _, _ => ⟨S128x32768x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_c_2 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_c_3 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_0 : Ref sig .tc := ⟨.hbm, 56, rfl⟩
abbrev main_v24 : Ref sig .tc := ⟨.hbm, 57, rfl⟩
abbrev main_cst_1 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_2 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_call1_c : Ref sig .tc := ⟨.hbm, 71, rfl⟩
abbrev main_call1_v0 : Ref sig .tc := ⟨.hbm, 72, rfl⟩
abbrev main_call1_v1 : Ref sig .tc := ⟨.hbm, 73, rfl⟩
abbrev main_call1_c_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_c_1 : Ref sig .tc := ⟨.hbm, 79, rfl⟩
abbrev main_call1_c_2 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_c_3 : Ref sig .tc := ⟨.hbm, 87, rfl⟩
abbrev main_call1_v12 : Ref sig .tc := ⟨.hbm, 88, rfl⟩
abbrev main_call1_v13 : Ref sig .tc := ⟨.hbm, 89, rfl⟩
abbrev main_call1_cst : Ref sig .tc := ⟨.hbm, 90, rfl⟩
abbrev main_call1_v14 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_call2_c : Ref sig .tc := ⟨.hbm, 96, rfl⟩
abbrev main_call2_v0 : Ref sig .tc := ⟨.hbm, 97, rfl⟩
abbrev main_call2_v1 : Ref sig .tc := ⟨.hbm, 98, rfl⟩
abbrev main_call2_c_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_c_1 : Ref sig .tc := ⟨.hbm, 104, rfl⟩
abbrev main_call2_c_2 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_c_3 : Ref sig .tc := ⟨.hbm, 112, rfl⟩
abbrev main_call2_v12 : Ref sig .tc := ⟨.hbm, 113, rfl⟩
abbrev main_call2_v13 : Ref sig .tc := ⟨.hbm, 114, rfl⟩
abbrev main_call2_cst : Ref sig .tc := ⟨.hbm, 115, rfl⟩
abbrev main_call2_v14 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_cst_3 : Ref sig .tc := ⟨.hbm, 124, rfl⟩
abbrev main_v47 : Ref sig .tc := ⟨.hbm, 125, rfl⟩
abbrev main_v48 : Ref sig .tc := ⟨.hbm, 126, rfl⟩
abbrev main_cst_4 : Ref sig .tc := ⟨.hbm, 127, rfl⟩
abbrev main_cst_5 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v49 : Ref sig .tc := ⟨.hbm, 132, rfl⟩
abbrev main_v50 : Ref sig .tc := ⟨.hbm, 133, rfl⟩
abbrev main_c : Ref sig .tc := ⟨.hbm, 134, rfl⟩
abbrev main_v51 : Ref sig .tc := ⟨.hbm, 135, rfl⟩
abbrev main_v52 : Ref sig .tc := ⟨.hbm, 136, rfl⟩
abbrev main_c_6 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_c_7 : Ref sig .tc := ⟨.hbm, 141, rfl⟩
abbrev main_v56 : Ref sig .tc := ⟨.hbm, 142, rfl⟩
abbrev main_v57 : Ref sig .tc := ⟨.hbm, 143, rfl⟩
abbrev main_c_8 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_cst_9 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_cst_10 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_cst_11 : Ref sig .tc := ⟨.hbm, 169, rfl⟩
abbrev main_v80 : Ref sig .tc := ⟨.hbm, 170, rfl⟩
abbrev main_cst_12 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_cst_13 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_call4_c : Ref sig .tc := ⟨.hbm, 184, rfl⟩
abbrev main_call4_v0 : Ref sig .tc := ⟨.hbm, 185, rfl⟩
abbrev main_call4_v1 : Ref sig .tc := ⟨.hbm, 186, rfl⟩
abbrev main_call4_c_0 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_call4_v5 : Ref sig .tc := ⟨.hbm, 191, rfl⟩
abbrev main_call4_c_1 : Ref sig .tc := ⟨.hbm, 192, rfl⟩
abbrev main_call4_c_2 : Ref sig .tc := ⟨.hbm, 193, rfl⟩
abbrev main_call4_v6 : Ref sig .tc := ⟨.hbm, 194, rfl⟩
abbrev main_call4_v7 : Ref sig .tc := ⟨.hbm, 195, rfl⟩
abbrev main_call4_v8 : Ref sig .tc := ⟨.hbm, 196, rfl⟩
abbrev main_call4_v9 : Ref sig .tc := ⟨.hbm, 197, rfl⟩
abbrev main_call4_v10 : Ref sig .tc := ⟨.hbm, 198, rfl⟩
abbrev main_call4_v11 : Ref sig .tc := ⟨.hbm, 199, rfl⟩
abbrev main_call4_c_3 : Ref sig .tc := ⟨.hbm, 200, rfl⟩
abbrev main_call4_v12 : Ref sig .tc := ⟨.hbm, 201, rfl⟩
abbrev main_call4_v13 : Ref sig .tc := ⟨.hbm, 202, rfl⟩
abbrev main_call4_cst : Ref sig .tc := ⟨.hbm, 203, rfl⟩
abbrev main_call4_v14 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev main_v95 : Ref sig .tc := ⟨.hbm, 208, rfl⟩

abbrev nD : Nat := 1
abbrev τ : Topo := Topo.v7x

variable {F : FTy → Type} [FloatOps F]
-- ==== Proof.KernelIdealTile.lean ====
/-
  One vector subcore's task of the SparseCore call: four rows, each fetched with its row of column numbers, gathered
  sixteen lanes at a time, and written out. What is proved: from the task's rows of the three arrays it runs to its
  end and leaves in each of its rows of the result the gathered row.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.RegionsLoop
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

/-! ## The arrays of the call and the scratch of a task -/

abbrev fLoc (d : Dev nD) : Loc nD τ sig := (SparseCore.T d).loc main_v6
abbrev iLoc (d : Dev nD) : Loc nD τ sig := (SparseCore.T d).loc main_v2
abbrev oLoc (d : Dev nD) : Loc nD τ sig := (SparseCore.T d).loc main_v9

local notation "fV" => (Memref.whole Cert.KernelIdeal.main_v6_scv : Memref Cert.KernelIdeal.sig Kind.scVector Space.hbm Cert.KernelIdeal.S128x32768 EltTy.f32)
local notation "iV" => (Memref.whole Cert.KernelIdeal.main_v2_scv : Memref Cert.KernelIdeal.sig Kind.scVector Space.hbm Cert.KernelIdeal.S128x32768 EltTy.i32)
local notation "oV" => (Memref.whole Cert.KernelIdeal.main_v9_scv : Memref Cert.KernelIdeal.sig Kind.scVector Space.hbm Cert.KernelIdeal.S128x32768 EltTy.f32)
local notation "aV" => (Memref.whole Cert.KernelIdeal.cc0_scratch0 : Memref Cert.KernelIdeal.sig Kind.scVector Space.vmem Cert.KernelIdeal.S32768 EltTy.f32)
local notation "bV" => (Memref.whole Cert.KernelIdeal.cc0_scratch1 : Memref Cert.KernelIdeal.sig Kind.scVector Space.vmem Cert.KernelIdeal.S32768 EltTy.i32)
local notation "gV" => (Memref.whole Cert.KernelIdeal.cc0_scratch2 : Memref Cert.KernelIdeal.sig Kind.scVector Space.vmem Cert.KernelIdeal.S32768 EltTy.f32)

/-- A column number, brought below the row's length. -/
def col (n : ℕ) : S32768.Idx := fun a => ⟨n % S32768.size a, Nat.mod_lt _ (by revert a; decide)⟩

/-- The gathered row: entry `j` is the row's entry at the column number of entry `j`. -/
def gat (A : S32768.Idx → Elt F .f32) (I : S32768.Idx → Elt F .i32) : S32768.Idx → Elt F .f32 :=
  fun j => A (col (I j).toNat)

section Tile

variable [FloatOps F] (d : Dev nD) (L : grid0.Coords)

abbrev cV (L : grid0.Coords) : Fin τ.nSC := (L 0).castLE hcore0
abbrev jV (L : grid0.Coords) : Fin τ.nSub := (L 1).castLE hsub0

/-- The state between the groups of a row: the fetched row and its column numbers, and the gathered row's buffer right
    on the entries of the groups run. -/
abbrev ginv (A : S32768.Idx → Elt F .f32) (I : S32768.Idx → Elt F .i32) (k : ℕ) (_ : Unit) : sProp 𝕄 :=
  iprop(((aV).view.loc (V d (cV L) (jV L)) ↦{fullShare} A) ∗ ((bV).view.loc (V d (cV L) (jV L)) ↦{fullShare} I)
    ∗ ∃ g : S32768.Idx → Elt F .f32, ⌜∀ j : S32768.Idx, (j 0).val < 16 * k → g j = gat A I j⌝
        ∗ ((gV).view.loc (V d (cV L) (jV L)) ↦{fullShare} g))

/-- What a group reads of the column numbers. -/
theorem group_idx (I : S32768.Idx → Elt F .i32) (k : Fin k0_t2_loop.trips) (x : S16.Idx) :
    (bV).view.readAt (Elt F) (Rect.unit (s := S32768) (k0_off2 k) S16.size (k0_off2_inb k)).toLoadRect I x
      = I ((Rect.unit (s := S32768) (k0_off2 k) S16.size (k0_off2_inb k)).emb x) := rfl

theorem group_emb (k : Fin k0_t2_loop.trips) (x : S16.Idx) :
    (Rect.unit (s := S32768) (k0_off2 k) S16.size (k0_off2_inb k)).emb x = (Rect.unit (s := S32768) (k0_off3 k) S16.size (k0_off3_inb k)).emb x := by
  have h : k0_off2 k = k0_off3 k := (k0_off2_eq k).trans (k0_off3_eq k).symm
  funext a
  refine Fin.ext ?_
  exact congrArg (fun o : Fin 1 → ℕ => o a + 1 * (x a).val) h

theorem group_val (A : S32768.Idx → Elt F .f32) (I : S32768.Idx → Elt F .i32)
    (k : Fin k0_t2_loop.trips) (g : S32768.Idx → Elt F .f32) (hg : ∀ j : S32768.Idx, (j 0).val < 16 * k.val → g j = gat A I j)
    (w : S16.Idx → Elt F .f32)
    (hw : ∀ x, w x = gat A I ((Rect.unit (s := S32768) (k0_off3 k) S16.size (k0_off3_inb k)).emb x))
    (j : S32768.Idx) (hj : (j 0).val < 16 * (k.val + 1)) :
    ((gV).access (Rect.unit (s := S32768) (k0_off3 k) S16.size (k0_off3_inb k))).write (Elt F) g w Finset.univ j = gat A I j := by
  by_cases h : j ∈ (Rect.unit (s := S32768) (k0_off3 k) S16.size (k0_off3_inb k)).set
  · obtain ⟨x, rfl⟩ := (Rect.unit (s := S32768) (k0_off3 k) S16.size (k0_off3_inb k)).exists_idx_of_mem h
    refine (View.write_emb_of_mem (v := (gV).access (Rect.unit (s := S32768) (k0_off3 k) S16.size (k0_off3_inb k))) (Val := Elt F) g w (x := x) (Finset.mem_univ x)).trans ?_
    exact hw x
  · rw [View.write_of_not_mem]
    · refine hg j ?_
      by_contra hc
      refine h (Rect.mem_set_unit.mpr fun a => ?_)
      have ha : a = 0 := Subsingleton.elim _ _
      subst ha
      rw [k0_off3_eq]
      simp only [Matrix.cons_val_zero]
      refine ⟨by omega, ?_⟩
      show (j 0).val < 16 * k.val + 16
      omega
    · intro hm
      refine h ?_
      have : ((gV).access (Rect.unit (s := S32768) (k0_off3 k) S16.size (k0_off3_inb k))).setOn Finset.univ = (Rect.unit (s := S32768) (k0_off3 k) S16.size (k0_off3_inb k)).set := by
        show ((View.whole (cc0_scratch2 : Ref sig .scVector)).slice _).set = _
        rw [View.set_slice]; exact Finset.map_refl
      rwa [this] at hm

set_option maxHeartbeats 4000000 in
/-- One group of sixteen lanes. -/
theorem group_run (A : S32768.Idx → Elt F .f32) (I : S32768.Idx → Elt F .i32) (hI : ∀ j, (I j).toNat < 32768)
    (k : Fin k0_t2_loop.trips) :
    ginv d L A I k.val () ⊢ wp frame (wpE (defs₀ (F := F)) 𝒱₀ (V d (cV L) (jV L)) none) Set.univ
      (k0_t2_body (F := F) L fV (Memref.isWhole_whole _) iV (Memref.isWhole_whole _) oV (Memref.isWhole_whole _)
        aV (Memref.isWhole_whole _) bV (Memref.isWhole_whole _) gV (Memref.isWhole_whole _) cc0_scratch3 cc0_scratch4 cc0_scoped0 k ())
      fun _ => ginv d L A I (k.val + 1) () := by
  unfold ginv k0_t2_body
  iintro ⟨Ha, Hb, %g, %hg, Hg⟩
  sl_exec
  have hc : k0_chk1 ((bV).view.readAt (Elt F) (Rect.unit (s := S32768) (k0_off2 k) S16.size (k0_off2_inb k)).toLoadRect I) := by
    intro a x
    have ha : a = 0 := Subsingleton.elim _ _
    subst ha
    exact hI _
  rw [wp_assume_of _ _ _ _ hc]
  iapply (SparseCore.wp_vectorLoadIdx 𝒱₀ (V d (cV L) (jV L)) none Set.univ (base := aV) (S := Finset.univ) (q := fullShare) (Finset.subset_univ _)) $$ Ha
  iintro Ha
  iapply (wp_load 𝒱₀ (V d (cV L) (jV L)) none Set.univ (m := gV) (S := Finset.univ) (q := fullShare) (Finset.subset_univ _)) $$ Hg
  iintro Hg
  iapply (wp_store 𝒱₀ (V d (cV L) (jV L)) none Set.univ (m := gV) (r := Rect.unit (s := S32768) (k0_off3 k) S16.size (k0_off3_inb k)) (S := Finset.univ) (Finset.subset_univ _)) $$ Hg
  iintro Hg
  simp only [Prog.bind]
  sl_step
  isplitl [Ha]; · iexact Ha
  isplitl [Hb]; · iexact Hb
  iexists _; isplitr; swap; · iexact Hg
  ipureintro
  refine group_val A I k g hg _ fun x => ?_
  unfold loadIdx gat
  rw [Memref.read_access_whole]
  congr 1
  funext a
  refine Fin.ext ?_
  match a with
  | 0 =>
    rw [← group_emb]
    exact (Nat.mod_eq_of_lt (hI _)).symm

/-! ## The rows -/

theorem rdiv : 128 ∣ S128x32768.size 0 := ⟨1, rfl⟩
/-- Row `b` of an array of 128 rows. -/
abbrev row (b : Fin 128) : Rect S128x32768 := Rect.part (s := S128x32768) (a₀ := 0) rdiv b
abbrev fSet (b : Fin 128) : Finset S128x32768.Idx := ((fV).view.slice (row b)).set
abbrev iSet (b : Fin 128) : Finset S128x32768.Idx := ((iV).view.slice (row b)).set
abbrev oSet (b : Fin 128) : Finset S128x32768.Idx := ((oV).view.slice (row b)).set

/-- The row task `L` works on in its trip `t`. -/
def rowNo (L : grid0.Coords) (t : Fin k0_t1_loop.trips) : Fin 128 :=
  ⟨8 * (L 1).val + 4 * (L 0).val + t.val, by
    have h1 : (L 1).val < 16 := (L 1).isLt
    have h0 : (L 0).val < 2 := (L 0).isLt
    have ht : t.val < 4 := lt_of_lt_of_le t.isLt k0_t1_abs.2.1
    omega⟩

/-- Entry `x` of row `b`. -/
def cell (b : Fin 128) (x : S32768.Idx) : S128x32768.Idx := fun | 0 => b | 1 => x 0

abbrev rowK (L : grid0.Coords) (t : Fin k0_t1_loop.trips) : Rect S128x32768 :=
  Rect.unit (s := S128x32768) (k0_off1 L t) S1x32768.size (k0_off1_inb L t)
abbrev fK (L : grid0.Coords) (t : Fin k0_t1_loop.trips) : Memref sig .scVector .hbm S32768 .f32 :=
  ((fV).slice (rowK L t) (fun _ => rfl)).squeeze S32768 squeezes_S1x32768_S32768
abbrev iK (L : grid0.Coords) (t : Fin k0_t1_loop.trips) : Memref sig .scVector .hbm S32768 .i32 :=
  ((iV).slice (rowK L t) (fun _ => rfl)).squeeze S32768 squeezes_S1x32768_S32768
abbrev oK (L : grid0.Coords) (t : Fin k0_t1_loop.trips) : Memref sig .scVector .hbm S32768 .f32 :=
  ((oV).slice (rowK L t) (fun _ => rfl)).squeeze S32768 squeezes_S1x32768_S32768

variable (t : Fin k0_t1_loop.trips)

theorem rowK_eq : rowK L t = row (rowNo L t) := by
  unfold rowK row Rect.part Rect.block
  congr 1 <;> funext a
  · rw [k0_off1_eq]
    match a with
    | 0 => simp [Shape.partIx, Shape.partSize, rowNo]
    | 1 => simp [Shape.partIx, Shape.partSize]
  · match a with
    | 0 => simp [Shape.partSize]
    | 1 => simp [Shape.partSize]

theorem set_fK : (fK L t).view.set = fSet (rowNo L t) := by
  show (((fV).view.slice (rowK L t)).reshape S32768 squeezes_S1x32768_S32768.numel_eq).set = ((fV).view.slice (row (rowNo L t))).set
  rw [View.set_reshape]
  exact rowK_eq L t ▸ rfl
theorem set_iK : (iK L t).view.set = iSet (rowNo L t) := by
  show (((iV).view.slice (rowK L t)).reshape S32768 squeezes_S1x32768_S32768.numel_eq).set = ((iV).view.slice (row (rowNo L t))).set
  rw [View.set_reshape]
  exact rowK_eq L t ▸ rfl
theorem set_oK : (oK L t).view.set = oSet (rowNo L t) := by
  show (((oV).view.slice (rowK L t)).reshape S32768 squeezes_S1x32768_S32768.numel_eq).set = ((oV).view.slice (row (rowNo L t))).set
  rw [View.set_reshape]
  exact rowK_eq L t ▸ rfl

theorem row_emb (x : S32768.Idx) :
    (rowK L t).emb (Shape.reshapeEquiv (s := S1x32768) (s' := S32768) squeezes_S1x32768_S32768.numel_eq x) = cell (rowNo L t) x := by
  have hr := Shape.rowMajor_reshapeEquiv (s := S1x32768) squeezes_S1x32768_S32768.numel_eq x
  generalize Shape.reshapeEquiv (s := S1x32768) (s' := S32768) squeezes_S1x32768_S32768.numel_eq x = y at hr ⊢
  have h2 : (S1x32768.rowMajor y).val = (y 0).val * 32768 + (y 1).val := Shape.rowMajor_val_two y
  have h1 : (S32768.rowMajor x).val = (x 0).val := Shape.rowMajor_val_one x
  have h0 : (y 0).val < 1 := (y 0).isLt
  funext a
  refine Fin.ext ?_
  rw [Rect.emb_apply]
  match a with
  | 0 =>
    show k0_off1 L t 0 + 1 * _ = 8 * (L 1).val + 4 * (L 0).val + t.val
    rw [k0_off1_eq]
    show 8 * (L 1).val + 4 * (L 0).val + t.val + 1 * _ = _
    omega
  | 1 =>
    show k0_off1 L t 1 + 1 * _ = (x 0).val
    rw [k0_off1_eq]
    show 0 + 1 * _ = _
    omega

theorem emb_fK (x : S32768.Idx) : (fK L t).view.emb x = cell (rowNo L t) x := row_emb L t x
theorem emb_iK (x : S32768.Idx) : (iK L t).view.emb x = cell (rowNo L t) x := row_emb L t x
theorem emb_oK (x : S32768.Idx) : (oK L t).view.emb x = cell (rowNo L t) x := row_emb L t x

/-- An index of a row's array with its column replaced. -/
def pick (j : S128x32768.Idx) (n : ℕ) : S128x32768.Idx := fun
  | 0 => j 0
  | 1 => ⟨n % 32768, Nat.mod_lt _ (by decide)⟩

/-- The gather over all rows: entry `(b, n)` is row `b` of `f` at the column number `(b, n)`. -/
def gath (f : S128x32768.Idx → Elt F .f32) (ix : S128x32768.Idx → Elt F .i32) : S128x32768.Idx → Elt F .f32 :=
  fun j => f (pick j (ix j).toNat)

theorem gat_row (f : S128x32768.Idx → Elt F .f32) (ix : S128x32768.Idx → Elt F .i32) (x : S32768.Idx) :
    gat ((fK L t).view.read (Elt F) f) ((iK L t).view.read (Elt F) ix) x = gath f ix (cell (rowNo L t) x) := by
  unfold gat gath
  have e : ∀ y, (fK L t).view.read (Elt F) f y = f (cell (rowNo L t) y) := fun y => (View.read_apply _ _).trans ((cast_eq _ _).trans (congrArg f (emb_fK L t y)))
  have e' : ∀ y, (iK L t).view.read (Elt F) ix y = ix (cell (rowNo L t) y) := fun y => (View.read_apply _ _).trans ((cast_eq _ _).trans (congrArg ix (emb_iK L t y)))
  rw [e, e']
  congr 1

/-- A value written over the whole of a view reads back at the view's elements. -/
theorem writes_whole_emb {sp : Space} {κ : Kind} {s : Shape} {e : EltTy} (v : View sig κ sp s e) (o : v.ty.Contents (Elt F)) (g : s.Idx → Elt F e) (x : s.Idx) :
    v.writes (Elt F) o [⟨Rect.whole s, g⟩] (v.emb x) = cast (congrArg (Elt F) v.elt_eq.symm) (g x) := by
  have hx : (v.slice (Rect.whole s)).emb x = v.emb x := congrArg (fun y : s.Idx => v.emb y) (Rect.emb_whole_apply s x)
  exact (congrArg _ hx.symm).trans (View.write_emb_of_mem (v := v.slice (Rect.whole s)) (Val := Elt F) o g (x := x) (Finset.mem_univ x))

theorem write_row (f : S128x32768.Idx → Elt F .f32) (ix : S128x32768.Idx → Elt F .i32) (o : S128x32768.Idx → Elt F .f32)
    (g : S32768.Idx → Elt F .f32) (hg : ∀ x, g x = gat ((fK L t).view.read (Elt F) f) ((iK L t).view.read (Elt F) ix) x) :
    ∀ j ∈ oSet (rowNo L t), (oK L t).view.writes (Elt F) o [⟨Rect.whole S32768, g⟩] j = gath f ix j := by
  intro j hj
  rw [← set_oK] at hj
  obtain ⟨x, -, rfl⟩ := Finset.mem_map.mp hj
  refine (writes_whole_emb (oK L t).view o g x).trans ?_
  refine (cast_eq _ _).trans ((hg x).trans ((gat_row L t f ix x).trans ?_))
  rw [emb_oK]

/-- The three rows of number `b`, the result's at contents `o`. -/
abbrev rowPts (f : S128x32768.Idx → Elt F .f32) (ix : S128x32768.Idx → Elt F .i32) (o : S128x32768.Idx → Elt F .f32) (b : Fin 128) : sProp 𝕄 :=
  iprop((fLoc d ↦[fSet b]{fullShare} f) ∗ (iLoc d ↦[iSet b]{fullShare} ix) ∗ oLoc d ↦[oSet b]{fullShare} o)

theorem pts_fK (f : S128x32768.Idx → Elt F .f32) :
    ((fK L t).view.loc (V d (cV L) (jV L)) ↦[(fK L t).view.set]{fullShare} f : sProp 𝕄) = fLoc d ↦[fSet (rowNo L t)]{fullShare} f := by
  rw [set_fK]
theorem pts_iK (f : S128x32768.Idx → Elt F .i32) :
    ((iK L t).view.loc (V d (cV L) (jV L)) ↦[(iK L t).view.set]{fullShare} f : sProp 𝕄) = iLoc d ↦[iSet (rowNo L t)]{fullShare} f := by
  rw [set_iK]
theorem pts_oK (f : S128x32768.Idx → Elt F .f32) :
    ((oK L t).view.loc (V d (cV L) (jV L)) ↦[(oK L t).view.set]{fullShare} f : sProp 𝕄) = oLoc d ↦[oSet (rowNo L t)]{fullShare} f := by
  rw [set_oK]

abbrev cAcell : GSem nD τ sig := (V d (cV L) (jV L), .dma cc0_scratch3.sem)
abbrev cBcell : GSem nD τ sig := (V d (cV L) (jV L), .dma cc0_scratch4.sem)
abbrev cCcell : GSem nD τ sig := (V d (cV L) (jV L), .dma cc0_scoped0.sem)

/-- What a task holds between its rows besides them: its scratch at some contents, its three cells at zero, its debts. -/
abbrev hold (O : CellTallies nD τ sig (HIx 1)) (W : Waits sig (HIx 1)) : sProp 𝕄 :=
  iprop(Transfers.MayWaits (V d (cV L) (jV L)) (default : HIx 1) O
    ∗ (∃ A : S32768.Idx → Elt F .f32, (aV).view.loc (V d (cV L) (jV L)) ↦{fullShare} A)
    ∗ (∃ B : S32768.Idx → Elt F .i32, (bV).view.loc (V d (cV L) (jV L)) ↦{fullShare} B)
    ∗ (∃ G : S32768.Idx → Elt F .f32, (gV).view.loc (V d (cV L) (jV L)) ↦{fullShare} G)
    ∗ semVal (cAcell d L) 0 ∗ semVal (cBcell d L) 0 ∗ semVal (cCcell d L) 0
    ∗ ∃ W', ⌜∀ p ∈ W', p ∈ W ∨ p.2 = none⌝ ∗ owes (V d (cV L) (jV L)) O W')

theorem group_trips : k0_t2_loop.trips = 2048 := by decide +kernel

theorem pts_write {A : S32768.Idx → Elt F .f32} {w w' : S32768.Idx → Elt F .f32} (h : w = w') :
    ((aV).view.loc (V d (cV L) (jV L)) ↦{fullShare} View.write (Elt F) (aV).view A w Finset.univ : sProp 𝕄)
      = (aV).view.loc (V d (cV L) (jV L)) ↦{fullShare} w' := by
  subst h; exact congrArg _ (View.write_whole_univ _ _ _)
theorem pts_write' {A : S32768.Idx → Elt F .i32} {w w' : S32768.Idx → Elt F .i32} (h : w = w') :
    ((bV).view.loc (V d (cV L) (jV L)) ↦{fullShare} View.write (Elt F) (bV).view A w Finset.univ : sProp 𝕄)
      = (bV).view.loc (V d (cV L) (jV L)) ↦{fullShare} w' := by
  subst h; exact congrArg _ (View.write_whole_univ _ _ _)

set_option maxHeartbeats 4000000 in
/-- One row. -/
theorem row_run (O : CellTallies nD τ sig (HIx 1)) (W : Waits sig (HIx 1)) (f : S128x32768.Idx → Elt F .f32)
    (ix : S128x32768.Idx → Elt F .i32) (o : S128x32768.Idx → Elt F .f32) (hI : ∀ j, (ix j).toNat < 32768) :
    iprop(hold d L O W ∗ rowPts d f ix o (rowNo L t)) ⊢ wp frame (wpE (defs₀ (F := F)) 𝒱₀ (V d (cV L) (jV L)) none) Set.univ
      (k0_t1_body (F := F) L fV (Memref.isWhole_whole _) iV (Memref.isWhole_whole _) oV (Memref.isWhole_whole _)
        aV (Memref.isWhole_whole _) bV (Memref.isWhole_whole _) gV (Memref.isWhole_whole _) cc0_scratch3 cc0_scratch4 cc0_scoped0 t ())
      fun _ => iprop(hold d L O W ∗ rowPts d f ix (gath f ix) (rowNo L t)) := by
  unfold hold rowPts k0_t1_body
  iintro ⟨⟨Hmw, ⟨%A, Ha⟩, ⟨%B, Hb⟩, ⟨%G, Hg⟩, HsA, HsB, HsC, %W', %hW', HO⟩, Hf, Hi, Ho⟩
  ihave Hf' := (Entails.of_eq (pts_fK (F := F) d L t _).symm) $$ Hf
  ihave Hi' := (Entails.of_eq (pts_iK (F := F) d L t _).symm) $$ Hi
  ihave Ho' := (Entails.of_eq (pts_oK (F := F) d L t _).symm) $$ Ho
  sl_exec (disch := exact View.amount_pos _ _ (show 0 < S32768.numel by decide))
  ihave Ha' := (Entails.of_eq (pts_write (F := F) d L (w := row_run.sl.dma0 L t f) (w' := (fK L t).view.read (Elt F) f) rfl)) $$ Ha
  ihave Hb' := (Entails.of_eq (pts_write' (F := F) d L (w := row_run.sl.dma0_1 L t ix) (w' := (iK L t).view.read (Elt F) ix) rfl)) $$ Hb
  have hI' : ∀ x, ((iK L t).view.read (Elt F) ix x).toNat < 32768 := fun x => by
    rw [show (iK L t).view.read (Elt F) ix x = ix ((iK L t).view.emb x) from (View.read_apply _ _).trans (cast_eq _ _)]
    exact hI _
  sl_for (ginv d L ((fK L t).view.read (Elt F) f) ((iK L t).view.read (Elt F) ix)) $$ [Ha' Hb' Hg]
  case region =>
    intro k _
    exact group_run d L _ _ hI' k
  · unfold ginv
    isplitl [Ha']; · iexact Ha'
    isplitl [Hb']; · iexact Hb'
    iexists G; isplitr; swap; · iexact Hg
    ipureintro; intro j hj; exact absurd hj (by simp)
  iintro %_ HI
  unfold ginv
  icases HI with ⟨Ha, Hb, %g, %hg, Hg⟩
  sl_exec (disch := exact View.amount_pos _ _ (show 0 < S32768.numel by decide))
  have hO' : ((oK L t).view.loc (V d (cV L) (jV L)) ↦[(oK L t).view.set]{fullShare}
      (oK L t).view.writes (Elt F) o [⟨Rect.whole S32768, g⟩] : sProp 𝕄) = oLoc d ↦[oSet (rowNo L t)]{fullShare} gath f ix :=
    (pts_oK (F := F) d L t _).trans (pointsTo_congr (write_row L t f ix o g fun x => hg x (by
      show _ < 16 * k0_t2_loop.trips
      rw [group_trips]; exact (x 0).isLt)))
  sl_step
  isplitr [Hf' Hi' Ho']
  · isplitl [Hmw]; · iexact Hmw
    isplitl [Ha]; · iexists _; iexact Ha
    isplitl [Hb]; · iexists _; iexact Hb
    isplitl [Hg]; · iexists _; iexact Hg
    isplitl [HsA]; · iexact HsA
    isplitl [HsB]; · iexact HsB
    isplitl [HsC]; · iexact HsC
    iexists _; isplitr; swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [Hf']; · iapply (Entails.of_eq (pts_fK (F := F) d L t _)); iexact Hf'
  isplitl [Hi']; · iapply (Entails.of_eq (pts_iK (F := F) d L t _)); iexact Hi'
  iapply (Entails.of_eq hO'); iexact Ho'

/-! ## The task -/

theorem row_trips : k0_t1_loop.trips = 4 := by decide +kernel

/-- The state between a task's rows: the rows run hold the gathered row, the others what they held. -/
abbrev rinv (O : CellTallies nD τ sig (HIx 1)) (W : Waits sig (HIx 1)) (f : S128x32768.Idx → Elt F .f32)
    (ix : S128x32768.Idx → Elt F .i32) (o : S128x32768.Idx → Elt F .f32) (k : ℕ) (_ : Unit) : sProp 𝕄 :=
  iprop(hold d L O W ∗ bigSep Finset.univ fun t : Fin k0_t1_loop.trips => rowPts d f ix (if t.val < k then gath f ix else o) (rowNo L t))

theorem rinv_step (f : S128x32768.Idx → Elt F .f32) (ix : S128x32768.Idx → Elt F .i32) (o : S128x32768.Idx → Elt F .f32)
    (t : Fin k0_t1_loop.trips) :
    (bigSep (Finset.univ.erase t) fun t' : Fin k0_t1_loop.trips => rowPts d f ix (if t'.val < t.val then gath f ix else o) (rowNo L t') : sProp 𝕄)
      = bigSep (Finset.univ.erase t) fun t' : Fin k0_t1_loop.trips => rowPts d f ix (if t'.val < t.val + 1 then gath f ix else o) (rowNo L t') :=
  bigSep_congr fun t' ht' => by
    have hne : t'.val ≠ t.val := fun h => (Finset.mem_erase.mp ht').1 (Fin.ext h)
    by_cases h : t'.val < t.val
    · rw [if_pos h, if_pos (by omega)]
    · rw [if_neg h, if_neg (by omega)]

theorem rinv_run (O : CellTallies nD τ sig (HIx 1)) (W : Waits sig (HIx 1)) (f : S128x32768.Idx → Elt F .f32)
    (ix : S128x32768.Idx → Elt F .i32) (o : S128x32768.Idx → Elt F .f32) (hI : ∀ j, (ix j).toNat < 32768) :
    rinv d L O W f ix o t.val () ⊢ wp frame (wpE (defs₀ (F := F)) 𝒱₀ (V d (cV L) (jV L)) none) Set.univ
      (k0_t1_body (F := F) L fV (Memref.isWhole_whole _) iV (Memref.isWhole_whole _) oV (Memref.isWhole_whole _)
        aV (Memref.isWhole_whole _) bV (Memref.isWhole_whole _) gV (Memref.isWhole_whole _) cc0_scratch3 cc0_scratch4 cc0_scoped0 t ())
      fun _ => rinv d L O W f ix o (t.val + 1) () := by
  unfold rinv
  rw [SparseCore.bigSep_erase' (Finset.mem_univ t), SparseCore.bigSep_erase' (Finset.mem_univ t), rinv_step, if_neg (lt_irrefl _), if_pos (Nat.lt_succ_self _)]
  iintro ⟨Hh, Hr, Hrest⟩
  ihave Hw := (row_run d L t O W f ix o hI) $$ [Hh Hr]
  · isplitl [Hh]; · iexact Hh
    iexact Hr
  iapply (wp_wand frame _ _) $$ Hw
  iintro %_ ⟨Hh, Hr⟩
  isplitl [Hh]; · iexact Hh
  isplitl [Hr]; · iexact Hr
  iexact Hrest

theorem ownSems0_V :
    (ownSems0 (V d (cV L) (jV L)) : sProp 𝕄)
      = iprop(semVal (cAcell d L) 0 ∗ semVal (cBcell d L) 0 ∗ semVal (cCcell d L) 0
          ∗ bigSep ((((ownCells (V d (cV L) (jV L))).erase (cAcell d L)).erase (cBcell d L)).erase (cCcell d L)) fun g => semVal g 0) := by
  unfold SparseCore.Cfg.ownSems0
  rw [SparseCore.bigSep_erase' ((mem_ownCells (g := cAcell d L)).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d L)).mpr ⟨rfl, by show (SemLoc.dma cc0_scoped0.sem : SemLoc sig).isScoped .scVector = true; decide⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have ne {a b : Ref sig .scVector} (h : a ≠ b) : (Proc.scVector (cV L) (jV L)).devRef a ≠ (Proc.scVector (cV L) (jV L)).devRef b :=
    fun e => absurd (Proc.devRef_injective _ e) h
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨ne (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩)]

/-- A task's rows. -/
abbrev taskRows (f : S128x32768.Idx → Elt F .f32) (ix : S128x32768.Idx → Elt F .i32) (o : S128x32768.Idx → Elt F .f32) : sProp 𝕄 :=
  bigSep Finset.univ fun t : Fin k0_t1_loop.trips => rowPts d f ix o (rowNo L t)

set_option maxHeartbeats 4000000 in
/-- The task on vector subcore `(L 0, L 1)` of device `d`. -/
theorem tile_body (hF : (K (F := F)).Facts) (f : S128x32768.Idx → Elt F .f32) (ix : S128x32768.Idx → Elt F .i32)
    (o : S128x32768.Idx → Elt F .f32) (hI : ∀ j, (ix j).toNat < 32768)
    (O : CellTallies nD τ sig (HIx 1)) (W : Waits sig (HIx 1)) (hO : ∀ g, O g none = 0) :
    iprop(levAts (K (F := F)).L (K (F := F)).lev ∗ emp ∗ taskRows d L f ix o
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L fV (Memref.isWhole_whole _) iV (Memref.isWhole_whole _) oV (Memref.isWhole_whole _)
            aV (Memref.isWhole_whole _) bV (Memref.isWhole_whole _) gV (Memref.isWhole_whole _) cc0_scratch3 cc0_scratch4 cc0_scoped0)
          fun _ => iprop(taskRows d L f ix (gath f ix)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V]
  iintro ⟨#Hlv, -, Hr, ⟨⟨%A, Ha⟩, ⟨%B, Hb⟩, ⟨%G, Hg⟩, Hbufs⟩, ⟨HsA, HsB, HsC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec
  sl_for (rinv d L O W f ix o) $$ [Hmw Hr Ha Hb Hg HsA HsB HsC HO]
  case region =>
    intro k _
    exact rinv_run d L k O W f ix o hI
  · unfold rinv hold
    isplitr [Hr]
    · isplitl [Hmw]; · iexact Hmw
      isplitl [Ha]; · iexists A; iexact Ha
      isplitl [Hb]; · iexists B; iexact Hb
      isplitl [Hg]; · iexists G; iexact Hg
      isplitl [HsA]; · iexact HsA
      isplitl [HsB]; · iexact HsB
      isplitl [HsC]; · iexact HsC
      iexists W; isplitr; swap; · iexact HO
      ipureintro; exact fun p hp => .inl hp
    · rw [show (bigSep Finset.univ fun t : Fin k0_t1_loop.trips => rowPts d f ix (if t.val < 0 then gath f ix else o) (rowNo L t) : sProp 𝕄)
        = taskRows d L f ix o from bigSep_congr fun t _ => by rw [if_neg (Nat.not_lt_zero _)]]
      iexact Hr
  iintro %_ HI
  unfold rinv hold
  icases HI with ⟨⟨-, ⟨%A, Ha⟩, ⟨%B, Hb⟩, ⟨%G, Hg⟩, HsA, HsB, HsC, %W', %hW', HO⟩, Hr⟩
  sl_step
  isplitl [Hr]
  · iapply (Entails.of_eq (show (bigSep Finset.univ fun t : Fin k0_t1_loop.trips => rowPts d f ix (if t.val < k0_t1_loop.trips then gath f ix else o) (rowNo L t) : sProp 𝕄)
        = taskRows d L f ix (gath f ix) from bigSep_congr fun t _ => by rw [if_pos t.isLt]))
    iexact Hr
  isplitl [Ha Hb Hg Hbufs]
  · isplitl [Ha]; · iexists _; iexact Ha
    isplitl [Hb]; · iexists _; iexact Hb
    isplitl [Hg]; · iexists _; iexact Hg
    iexact Hbufs
  isplitl [HsA HsB HsC Hsems]
  · isplitl [HsA]; · iexact HsA
    isplitl [HsB]; · iexact HsB
    isplitl [HsC]; · iexact HsC
    iexact Hsems
  iexists _; isplitr
  swap; · iexact HO
  ipureintro; exact hW'

end Tile

end Cert.KernelIdeal.Own

end
-- ==== Proof.KernelIdealCall.lean ====
/-
  The SparseCore call: what goes to the tasks and comes back, the obligation of the launch rule for a task, and the
  division of the three arrays into the tasks' rows.
-/
module

public import proofs.«01_k».proof.Proof.KernelIdealTile

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

variable [FloatOps F]

/-- The task's grid point from its core and subcore numbers. -/
def coordsOf (c : Fin 2) (s : Fin 16) : grid0.Coords :=
  fun | 0 => c | 1 => s | ⟨_ + 2, h⟩ => absurd h (Nat.not_lt.2 (Nat.le_add_left _ _))

/-! ## What the handshakes carry -/

section Pay

variable (f : Dev nD → S128x32768.Idx → Elt F .f32) (ix : Dev nD → S128x32768.Idx → Elt F .i32) (o : Dev nD → S128x32768.Idx → Elt F .f32)

/-- Each task takes its rows and brings them back with the gathered rows in the result's. -/
def P : (K (F := F)).Pay (nD := nD) (Val := Elt F) (Name := ℕ) (U := UU) where
  st := fun q d c => match q with
    | 0 => bigSep Finset.univ fun i : Fin ((K (F := F)).nSub 0) => taskRows d (coordsOf (Fin.cast nCore_zero c) (Fin.cast nSub_zero i)) (f d) (ix d) (o d)
  dn := fun q d c => match q with
    | 0 => bigSep Finset.univ fun i : Fin ((K (F := F)).nSub 0) => taskRows d (coordsOf (Fin.cast nCore_zero c) (Fin.cast nSub_zero i)) (f d) (ix d) (gath (f d) (ix d))
  go := fun q d c i => match q with | 0 => taskRows d (coordsOf (Fin.cast nCore_zero c) (Fin.cast nSub_zero i)) (f d) (ix d) (o d)
  td := fun q d c i => match q with | 0 => taskRows d (coordsOf (Fin.cast nCore_zero c) (Fin.cast nSub_zero i)) (f d) (ix d) (gath (f d) (ix d))
  x := fun _ _ => iprop(emp)

instance P_storable : (P (F := F) f ix o).IsStorable where
  st q d c := match q with
    | 0 => (inferInstance : BI.Storable (upEmb : UEmb _ 𝕄) (bigSep Finset.univ fun i : Fin ((K (F := F)).nSub 0) =>
        taskRows d (coordsOf (Fin.cast nCore_zero c) (Fin.cast nSub_zero i)) (f d) (ix d) (o d)))
  dn q d c := match q with
    | 0 => (inferInstance : BI.Storable (upEmb : UEmb _ 𝕄) (bigSep Finset.univ fun i : Fin ((K (F := F)).nSub 0) =>
        taskRows d (coordsOf (Fin.cast nCore_zero c) (Fin.cast nSub_zero i)) (f d) (ix d) (gath (f d) (ix d))))
  go q d c i := match q with
    | 0 => (inferInstance : BI.Storable (upEmb : UEmb _ 𝕄) (taskRows d (coordsOf (Fin.cast nCore_zero c) (Fin.cast nSub_zero i)) (f d) (ix d) (o d)))
  td q d c i := match q with
    | 0 => (inferInstance : BI.Storable (upEmb : UEmb _ 𝕄) (taskRows d (coordsOf (Fin.cast nCore_zero c) (Fin.cast nSub_zero i)) (f d) (ix d) (gath (f d) (ix d))))

theorem vecSplit : (K (F := F)).VecSplit' (P f ix o) 0 := by
  intro d c
  show (bigSep Finset.univ fun i : Fin ((K (F := F)).nSub 0) => taskRows d (coordsOf (Fin.cast nCore_zero c) (Fin.cast nSub_zero i)) (f d) (ix d) (o d))
    ⊢ |={Set.univ}=> iprop((bigSep Finset.univ fun i : Fin ((K (F := F)).nSub 0) => taskRows d (coordsOf (Fin.cast nCore_zero c) (Fin.cast nSub_zero i)) (f d) (ix d) (o d))
      ∗ ((bigSep Finset.univ fun i : Fin ((K (F := F)).nSub 0) => taskRows d (coordsOf (Fin.cast nCore_zero c) (Fin.cast nSub_zero i)) (f d) (ix d) (gath (f d) (ix d)))
        -∗ bigSep Finset.univ fun i : Fin ((K (F := F)).nSub 0) => taskRows d (coordsOf (Fin.cast nCore_zero c) (Fin.cast nSub_zero i)) (f d) (ix d) (gath (f d) (ix d))))
  iintro H; imodintro
  isplitl [H]; · iexact H
  iintro H; iexact H

/-! ## The task's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          (Memref.whole main_v6_scv) (Memref.isWhole_whole _) (Memref.whole main_v2_scv) (Memref.isWhole_whole _) (Memref.whole main_v9_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hI : ∀ d j, (ix d j).toNat < 32768) : (K (F := F)).TileObl (D (F := F)) 𝒱 (P f ix o) v₀ 0 := by
  intro d c i O W hO _ _
  simp only [show (P f ix o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (f d) (ix d) (o d) (hI d) O W hO).trans (wp_mono frame _ _ fun _ => obl_post)

end Pay

/-! ## The arrays as the tasks' rows -/

theorem fSet_eq (b : Fin 128) : fSet b = (row b).set := by
  show ((View.whole (main_v6_scv : Ref sig .scVector)).slice (row b)).set = _
  rw [View.set_slice]; exact Finset.map_refl
theorem iSet_eq (b : Fin 128) : iSet b = (row b).set := by
  show ((View.whole (main_v2_scv : Ref sig .scVector)).slice (row b)).set = _
  rw [View.set_slice]; exact Finset.map_refl
theorem oSet_eq (b : Fin 128) : oSet b = (row b).set := by
  show ((View.whole (main_v9_scv : Ref sig .scVector)).slice (row b)).set = _
  rw [View.set_slice]; exact Finset.map_refl
theorem rows_disjoint : ∀ i ∈ (Finset.univ : Finset (Fin 128)), ∀ j ∈ (Finset.univ : Finset (Fin 128)), i ≠ j → Disjoint (row i).set (row j).set :=
  fun _ _ _ _ h => Rect.part_disjoint rdiv h
theorem rows_cover : (Finset.univ : Finset (Fin 128)).biUnion (fun b => (row b).set) = Finset.univ := Rect.biUnion_part rdiv

/-- The rows' numbers, by core, subcore and trip. -/
def rowEquiv : Fin 2 × Fin 16 × Fin k0_t1_loop.trips ≃ Fin 128 :=
  Equiv.ofBijective (fun p => rowNo (coordsOf p.1 p.2.1) p.2.2) (by
    rw [Fintype.bijective_iff_injective_and_card]
    constructor
    · rintro ⟨c, i, t⟩ ⟨c', i', t'⟩ h
      have ht : t.val < 4 := lt_of_lt_of_le t.isLt k0_t1_abs.2.1
      have ht' : t'.val < 4 := lt_of_lt_of_le t'.isLt k0_t1_abs.2.1
      have h : 8 * i.val + 4 * c.val + t.val = 8 * i'.val + 4 * c'.val + t'.val := congrArg Fin.val h
      have hc := c.isLt; have hc' := c'.isLt
      simp only [Prod.mk.injEq, Fin.ext_iff]
      omega
    · simp [row_trips])

variable (f : Dev nD → S128x32768.Idx → Elt F .f32) (ix : Dev nD → S128x32768.Idx → Elt F .i32) (o : Dev nD → S128x32768.Idx → Elt F .f32)

theorem whole_rows (d : Dev nD) (f : S128x32768.Idx → Elt F .f32) (ix : S128x32768.Idx → Elt F .i32) (o : S128x32768.Idx → Elt F .f32) :
    (iprop((fLoc d ↦{fullShare} f) ∗ (iLoc d ↦{fullShare} ix) ∗ oLoc d ↦{fullShare} o) : sProp 𝕄)
      = bigSep Finset.univ fun c : Fin ((K (F := F)).nCore 0) => bigSep Finset.univ fun i : Fin ((K (F := F)).nSub 0) =>
          taskRows d (coordsOf (Fin.cast nCore_zero c) (Fin.cast nSub_zero i)) f ix o := by
  have h1 : (fLoc d ↦{fullShare} f : sProp 𝕄) = bigSep Finset.univ fun b : Fin 128 => fLoc d ↦[fSet b]{fullShare} f := by
    rw [← pointsTo_biUnion Finset.univ (ℓ := fLoc d) fSet (fun i hi j hj h => by rw [fSet_eq, fSet_eq]; exact rows_disjoint i hi j hj h),
      (Finset.biUnion_congr rfl fun i _ => fSet_eq i).trans rows_cover]; try rfl
  have h2 : (iLoc d ↦{fullShare} ix : sProp 𝕄) = bigSep Finset.univ fun b : Fin 128 => iLoc d ↦[iSet b]{fullShare} ix := by
    rw [← pointsTo_biUnion Finset.univ (ℓ := iLoc d) iSet (fun i hi j hj h => by rw [iSet_eq, iSet_eq]; exact rows_disjoint i hi j hj h),
      (Finset.biUnion_congr rfl fun i _ => iSet_eq i).trans rows_cover]; try rfl
  have h3 : (oLoc d ↦{fullShare} o : sProp 𝕄) = bigSep Finset.univ fun b : Fin 128 => oLoc d ↦[oSet b]{fullShare} o := by
    rw [← pointsTo_biUnion Finset.univ (ℓ := oLoc d) oSet (fun i hi j hj h => by rw [oSet_eq, oSet_eq]; exact rows_disjoint i hi j hj h),
      (Finset.biUnion_congr rfl fun i _ => oSet_eq i).trans rows_cover]; try rfl
  rw [h1, h2, h3]
  have h := (bigSep_univ_equiv rowEquiv (fun b => (rowPts d f ix o b : sProp 𝕄)))
  rw [bigSep_univ_prod] at h
  simp only [bigSep_univ_prod] at h
  rw [← bigSep_sep', ← bigSep_sep']
  exact h

theorem st0_eq (d : Dev nD) : (bigSep Finset.univ fun c : Fin ((K (F := F)).nCore 0) => (P f ix o).st 0 d c)
    = iprop((fLoc d ↦{fullShare} f d) ∗ (iLoc d ↦{fullShare} ix d) ∗ oLoc d ↦{fullShare} o d) :=
  (whole_rows d (f d) (ix d) (o d)).symm
theorem dn0_eq (d : Dev nD) : (bigSep Finset.univ fun c : Fin ((K (F := F)).nCore 0) => (P f ix o).dn 0 d c)
    = iprop((fLoc d ↦{fullShare} f d) ∗ (iLoc d ↦{fullShare} ix d) ∗ oLoc d ↦{fullShare} gath (f d) (ix d)) :=
  (whole_rows d (f d) (ix d) (gath (f d) (ix d))).symm

/-! ## The launch element of the certificate's ghost state -/

abbrev adm : (p : Fin 1) → (pcfgs (F := F) p).Adm := fun p => (cfgs p).toPCfg_adm
abbrev pin1 := Pipeline.pin (pcfgs (F := F)) adm
theorem pin_inj : Function.Injective (Pipeline.cellOf (nD := nD) (τ := τ) (pin1 (F := F))) := cellOf_inj

def u₀ : UU := (initOf (K (F := F)).hsCells (K (F := F)).hsToks,
  (initOf (Pipeline.cells (pin1 (F := F)) pin_inj) (Pipeline.launchToks (pin1 (F := F)) pin_inj), 1))

/-- What the launch deals a TensorCore for the pipelined call: its staging cells' ghost state and duty tokens. -/
abbrev G (d : Dev nD) : sProp 𝕄 :=
  iprop(Pipeline.cellsGhost (pin1 (F := F)) EP 0 d ∗ Pipeline.toksInit (pin1 (F := F)) EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P f ix o).x q thr) := by
  unfold u₀
  iintro Hu
  ihave H := (ownU_pair (initOf (K (F := F)).hsCells (K (F := F)).hsToks) (initOf (Pipeline.cells (pin1 (F := F)) pin_inj) (Pipeline.launchToks (pin1 (F := F)) pin_inj), (1 : Counters))) $$ Hu
  icases H with ⟨HH, HR⟩
  ihave H := (own_pair_emb embR (initOf (Pipeline.cells (pin1 (F := F)) pin_inj) (Pipeline.launchToks (pin1 (F := F)) pin_inj)) (1 : Counters)) $$ HR
  icases H with ⟨HP, -⟩
  imod (Pipeline.fund_ghost (pin1 (F := F)) EP pin_inj) $$ HP with ⟨Hc, Ht⟩
  imodintro
  isplitl [HH]; · iexact HH
  isplitl [Hc Ht]
  · unfold G
    rw [bigSep_sep']
    isplitl [Hc]
    · iapply (Entails.of_eq (show (bigSep Finset.univ fun c : Dev nD => bigSep Finset.univ fun p => Pipeline.cellsGhost (pin1 (F := F)) (EP (F := F)) p c)
          = bigSep Finset.univ fun c : Dev nD => Pipeline.cellsGhost (pin1 (F := F)) EP 0 c from
        bigSep_congr fun _ _ => bigSep_univ_of_subsingleton (0 : Fin 1))) $$ Hc
    · iapply (Entails.of_eq (show (bigSep Finset.univ fun c : Dev nD => bigSep Finset.univ fun p => Pipeline.toksInit (pin1 (F := F)) (EP (F := F)) p c)
          = bigSep Finset.univ fun c : Dev nD => Pipeline.toksInit (pin1 (F := F)) EP 0 c from
        bigSep_congr fun _ _ => bigSep_univ_of_subsingleton (0 : Fin 1))) $$ Ht
  rw [show (bigSep Finset.univ fun thr : Thread nD τ => bigSep Finset.univ fun q : Fin 1 => (P (F := F) f ix o).x q thr) = bigSep Finset.univ fun _ => iprop(emp) from
    bigSep_congr fun _ _ => bigSep_univ_of_subsingleton (0 : Fin 1), bigSep_emp']
  iempintro

end Cert.KernelIdeal.Own

end
-- ==== Proof.KernelIdealBody.lean ====
/-
  The dense kernel's body: the number one grid point leaves, as a function of its operands' blocks, and the body's run.
-/
module

public import proofs.«01_k».proof.Proof.KernelIdealCall
public import Idealize.ShloMosaic.Lib.Pipeline.FrameBody
public import Idealize.ShloMosaic.Lib.Ring
public import Idealize.ShloMosaic.Lib.WordCmp
public import Idealize.ShloMosaic.Lib.WholeRead
public import Idealize.ShloMosaic.Lib.VecWindow

@[expose] public section

set_option maxRecDepth 16384

noncomputable section

namespace Cert.KernelIdeal.Own

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The value -/

/-- An entry of a 32 × 3 weight matrix. -/
def at2 (a b : ℕ) (ha : a < 32) (hb : b < 3) : S32x3.Idx := fun | 0 => ⟨a, ha⟩ | 1 => ⟨b, hb⟩
/-- An entry of a bias. -/
def at1 (a : ℕ) (ha : a < 32) : S32.Idx := fun | 0 => ⟨a, ha⟩
/-- An entry of an output layer's row. -/
def atR (a : ℕ) (ha : a < 32) : S1x32.Idx := fun | 0 => ⟨0, Nat.one_pos⟩ | 1 => ⟨a, ha⟩
/-- The one entry of an output layer's bias. -/
def atO : S1.Idx := fun | 0 => ⟨0, Nat.one_pos⟩
/-- An entry of one pair of actions. -/
def atA (a : ℕ) (ha : a < 2) : S1x1x2.Idx := fun | 0 => ⟨0, Nat.one_pos⟩ | 1 => ⟨0, Nat.one_pos⟩ | 2 => ⟨a, ha⟩

variable [FloatOps F]

/-- The thirty-two steps of an accumulation, in order. -/
def all32 {A : Type} (f : A → Fin 32 → A) (a : A) : A :=
  f (f (f (f (f (f (f (f (f (f (f (f (f (f (f (f (f (f (f (f (f (f (f (f (f (f (f (f (f (f (f (f (a) 0) 1) 2) 3) 4) 5) 6) 7) 8) 9) 10) 11) 12) 13) 14) 15) 16) 17) 18) 19) 20) 21) 22) 23) 24) 25) 26) 27) 28) 29) 30) 31

/-- One row of 32768 entries as a plane. -/
def plane (x : Vec F S1x256x128 .f32) : FVec F S256x128 .f32 := shapeCast S256x128 x shapeCasts_S1x256x128_S256x128

/-- The sum of a plane's entries. -/
def total (a : FVec F S256x128 .f32) : F .f32 :=
  extractAt ![0, 0, 0] (shapeCast S1x1x1 (multiReduction .add [1, 2] S1 (shapeCast S1x256x128 a shapeCasts_S256x128_S1x256x128) 0x00000000#32
    reduces_S1x256x128_S1 (.inl rfl) rfl) shapeCasts_S1_S1x1x1) inpos_S1x1x1_p0_0_0

/-- The entry of the plane an action names. -/
def hit (a : Elt F .i32) : IVec S256x128 1 :=
  cmpi .eq (addi (muli (iota .tc S256x128 32 [0] iota_S256x128_d0_w32) (broadcast S256x128 128#32)) (iota .tc S256x128 32 [1] iota_S256x128_d1_w32))
    (broadcast S256x128 a)

/-- The plane of zeros. -/
def zeros : FVec F S256x128 .f32 := broadcast S256x128 (Scalar.ofBits .f32 0x00000000#32)

/-- Hidden unit `k` of the items' network, at every entry. -/
def hidI (iw fci tmp : FVec F S256x128 .f32) (w : Vec F S32x3 .f32) (b : Vec F S32 .f32) (k : Fin 32) : FVec F S256x128 .f32 :=
  maximumf (addf (addf (addf (mulf iw (broadcast S256x128 (w (at2 k 0 k.isLt (by decide))))) (mulf fci (broadcast S256x128 (w (at2 k 1 k.isLt (by decide))))))
    (mulf tmp (broadcast S256x128 (w (at2 k 2 k.isLt (by decide)))))) (broadcast S256x128 (b (at1 k k.isLt)))) zeros

/-- The items' logits. -/
def accI (iw fci tmp : FVec F S256x128 .f32) (w : Vec F S32x3 .f32) (b : Vec F S32 .f32) (v : Vec F S1x32 .f32) (o : Vec F S1 .f32) : FVec F S256x128 .f32 :=
  all32 (fun acc k => addf acc (mulf (hidI iw fci tmp w b k) (broadcast S256x128 (v (atR k k.isLt))))) (broadcast S256x128 (o atO))

/-- Hidden unit `k` of the bins' network, at every entry; `s` is the weight of the item. -/
def hidB (s : F .f32) (fc tmp : FVec F S256x128 .f32) (w : Vec F S32x3 .f32) (b : Vec F S32 .f32) (k : Fin 32) : FVec F S256x128 .f32 :=
  maximumf (addf (addf (mulf fc (broadcast S256x128 (w (at2 k 1 k.isLt (by decide))))) (mulf tmp (broadcast S256x128 (w (at2 k 2 k.isLt (by decide))))))
    (broadcast S256x128 (Scalar.addf (b (at1 k k.isLt)) (Scalar.mulf s (w (at2 k 0 k.isLt (by decide))))))) zeros

/-- The bins' logits before the mask. -/
def accB (s : F .f32) (fc tmp : FVec F S256x128 .f32) (w : Vec F S32x3 .f32) (b : Vec F S32 .f32) (v : Vec F S1x32 .f32) (o : Vec F S1 .f32) : FVec F S256x128 .f32 :=
  all32 (fun acc k => addf acc (mulf (hidB s fc tmp w b k) (broadcast S256x128 (v (atR k k.isLt))))) (broadcast S256x128 (o atO))

/-- The bins' logits: bins that the item overfills, and the item's own entry, take the mask's number. -/
def maskB (s : F .f32) (fc acc : FVec F S256x128 .f32) (m : IVec S256x128 1) : FVec F S256x128 .f32 :=
  addf acc (select (ori (cmpf .ogt (subf (broadcast S256x128 s) fc) zeros) m) (broadcast S256x128 (Scalar.ofBits .f32 0xFF7FFFFF#32)) zeros)

/-- The log-probability of the entry `m` marks, of logits `a`. -/
def logp (a : FVec F S256x128 .f32) (m : IVec S256x128 1) : F .f32 :=
  Scalar.subf (total (select m a zeros)) (Scalar.log (total (exp a)))

/-- What one grid point computes: the sum of the two log-probabilities. -/
def tcOut (x0 : Vec F S1x1x2 .i32) (x1 x2 x3 x4 : Vec F S1x256x128 .f32) (x5 : Vec F S32x3 .f32) (x6 : Vec F S32 .f32) (x7 : Vec F S1x32 .f32) (x8 : Vec F S1 .f32)
    (x9 : Vec F S32x3 .f32) (x10 : Vec F S32 .f32) (x11 : Vec F S1x32 .f32) (x12 : Vec F S1 .f32) : F .f32 :=
  Scalar.addf (logp (accI (plane x1) (plane x4) (plane x3) x5 x6 x7 x8) (hit (x0 (atA 0 (by decide)))))
    (logp (maskB (total (select (hit (x0 (atA 0 (by decide)))) (plane x1) zeros)) (plane x2)
      (accB (total (select (hit (x0 (atA 0 (by decide)))) (plane x1) zeros)) (plane x2) (plane x3) x9 x10 x11 x12) (hit (x0 (atA 0 (by decide)))))
      (hit (x0 (atA 1 (by decide)))))

/-! ## The loads -/

section Reads

variable {κ : Kind} {sp : Space}

theorem read_w {m : Memref sig κ sp S32x3 .f32} (h : m.IsWhole) (X : Vec F S32x3 .f32) (a b : ℕ) (inb : ∀ i, ![a, b] i + ![1, 1] i ≤ S32x3.size i)
    (hn : 0 < (Rect.unit (s := S32x3) ![a, b] ![1, 1] inb).toLoadRect.shape.numel) :
    View.readAt (Elt F) m.view (Rect.unit (s := S32x3) ![a, b] ![1, 1] inb).toLoadRect (h.unread X) (Shape.Idx.first hn) = X (at2 a b (inb 0) (inb 1)) := by
  rw [h.readAt_unread]; congr 1; funext i; fin_cases i <;> rfl

theorem read_b {m : Memref sig κ sp S32 .f32} (h : m.IsWhole) (X : Vec F S32 .f32) (a : ℕ) (inb : ∀ i, ![a] i + ![1] i ≤ S32.size i)
    (hn : 0 < (Rect.unit (s := S32) ![a] ![1] inb).toLoadRect.shape.numel) :
    View.readAt (Elt F) m.view (Rect.unit (s := S32) ![a] ![1] inb).toLoadRect (h.unread X) (Shape.Idx.first hn) = X (at1 a (inb 0)) := by
  rw [h.readAt_unread]; congr 1; funext i; fin_cases i; rfl

theorem read_v {m : Memref sig κ sp S1x32 .f32} (h : m.IsWhole) (X : Vec F S1x32 .f32) (a : ℕ) (inb : ∀ i, ![0, a] i + ![1, 1] i ≤ S1x32.size i)
    (hn : 0 < (Rect.unit (s := S1x32) ![0, a] ![1, 1] inb).toLoadRect.shape.numel) :
    View.readAt (Elt F) m.view (Rect.unit (s := S1x32) ![0, a] ![1, 1] inb).toLoadRect (h.unread X) (Shape.Idx.first hn) = X (atR a (inb 1)) := by
  rw [h.readAt_unread]; congr 1; funext i; fin_cases i <;> rfl

theorem read_c {m : Memref sig κ sp S1 .f32} (h : m.IsWhole) (X : Vec F S1 .f32) (inb : ∀ i, ![0] i + ![1] i ≤ S1.size i)
    (hn : 0 < (Rect.unit (s := S1) ![0] ![1] inb).toLoadRect.shape.numel) :
    View.readAt (Elt F) m.view (Rect.unit (s := S1) ![0] ![1] inb).toLoadRect (h.unread X) (Shape.Idx.first hn) = X atO := by
  rw [h.readAt_unread]; congr 1; funext i; fin_cases i; rfl

theorem read_act {m : Memref sig κ sp S1x1x2 .i32} (h : m.IsWhole) (X : Vec F S1x1x2 .i32) (a : ℕ) (inb : ∀ i, ![0, 0, a] i + ![1, 1, 1] i ≤ S1x1x2.size i)
    (hn : 0 < (Rect.unit (s := S1x1x2) ![0, 0, a] ![1, 1, 1] inb).toLoadRect.shape.numel) :
    View.readAt (Elt F) m.view (Rect.unit (s := S1x1x2) ![0, 0, a] ![1, 1, 1] inb).toLoadRect (h.unread X) (Shape.Idx.first hn) = X (atA a (inb 2)) := by
  rw [h.readAt_unread]; congr 1; funext i; fin_cases i <;> rfl

theorem read_blk {m : Memref sig κ sp S1x256x128 .f32} (h : m.IsWhole) (X : Vec F S1x256x128 .f32) (inb : ∀ i, ![0, 0, 0] i + ![1, 256, 128] i ≤ S1x256x128.size i) :
    View.readAt (Elt F) m.view (Rect.unit (s := S1x256x128) ![0, 0, 0] ![1, 256, 128] inb).toLoadRect (h.unread X) = X := by
  funext x; rw [h.readAt_unread]; congr 1; funext i; refine Fin.ext ?_
  fin_cases i <;> exact (Nat.zero_add _).trans (Nat.one_mul _)

theorem read_one (v : View sig κ sp S1x1x1 .f32) (f : v.ty.Contents (Elt F)) (inb : ∀ i, ![0, 0, 0] i + ![1, 1, 1] i ≤ S1x1x1.size i) (y : F .f32) :
    v.read (Elt F) (v.writes (Elt F) f [⟨Rect.unit (s := S1x1x1) ![0, 0, 0] ![1, 1, 1] inb, fun _ => y⟩]) = fun _ => y :=
  v.read_writes_full f (off := ![0, 0, 0]) (fun a => by fin_cases a <;> exact Nat.le_refl _) (fun _ => y) []

end Reads

/-! ## The run -/

local notation "𝕄" => MT nD τ sig (HIx 1) (Elt F) ℕ UU ℕ

set_option maxHeartbeats 4000000 in
/-- The body, run on whole windows: the operands' windows stay as they are and the result's takes `tcOut`. -/
theorem body_run (c : Dev nD) (i : grid1.Coords) (arg1 : Memref sig .tc .smem S1x1x2 .i32) (harg1 : arg1.IsWhole) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .smem S32x3 .f32) (harg6 : arg6.IsWhole) (arg7 : Memref sig .tc .smem S32 .f32) (harg7 : arg7.IsWhole) (arg8 : Memref sig .tc .smem S1x32 .f32) (harg8 : arg8.IsWhole) (arg9 : Memref sig .tc .smem S1 .f32) (harg9 : arg9.IsWhole) (arg10 : Memref sig .tc .smem S32x3 .f32) (harg10 : arg10.IsWhole) (arg11 : Memref sig .tc .smem S32 .f32) (harg11 : arg11.IsWhole) (arg12 : Memref sig .tc .smem S1x32 .f32) (harg12 : arg12.IsWhole) (arg13 : Memref sig .tc .smem S1 .f32) (harg13 : arg13.IsWhole) (arg14 : Memref sig .tc .smem S1x1x1 .f32) (harg14 : arg14.IsWhole)
    (x0 : Vec F S1x1x2 .i32) (x1 : Vec F S1x256x128 .f32) (x2 : Vec F S1x256x128 .f32) (x3 : Vec F S1x256x128 .f32) (x4 : Vec F S1x256x128 .f32) (x5 : Vec F S32x3 .f32) (x6 : Vec F S32 .f32) (x7 : Vec F S1x32 .f32) (x8 : Vec F S1 .f32) (x9 : Vec F S32x3 .f32) (x10 : Vec F S32 .f32) (x11 : Vec F S1x32 .f32) (x12 : Vec F S1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (fun _ => tcOut x0 x1 x2 x3 x4 x5 x6 x7 x8 x9 x10 x11 x12)) -∗ K ⟨⟩))
          ⊢ wp frame (wpE (defs₀ (F := F)) 𝒱₀ c none) E (cc1__tc_body i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc1__tc_body_eq_skeleton]; unfold cc1__tc_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    iexists _; isplitr; swap; · iexact H13
    ipureintro
    refine (read_one arg14.view _ _ _).trans (funext fun _ => ?_)
    delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154 body_run.sl.r_155 body_run.sl.r_156 body_run.sl.r_157 body_run.sl.r_158 body_run.sl.r_159 body_run.sl.r_160 body_run.sl.r_161 body_run.sl.r_162 body_run.sl.r_163 body_run.sl.r_164 body_run.sl.r_165 body_run.sl.r_166 body_run.sl.r_167 body_run.sl.r_168 body_run.sl.r_169 body_run.sl.r_170 body_run.sl.r_171 body_run.sl.r_172 body_run.sl.r_173 body_run.sl.r_174 body_run.sl.r_175 body_run.sl.r_176 body_run.sl.r_177 body_run.sl.r_178 body_run.sl.r_179 body_run.sl.r_180 body_run.sl.r_181 body_run.sl.r_182 body_run.sl.r_183 body_run.sl.r_184 body_run.sl.r_185 body_run.sl.r_186 body_run.sl.r_187 body_run.sl.r_188 body_run.sl.r_189 body_run.sl.r_190 body_run.sl.r_191 body_run.sl.r_192 body_run.sl.r_193 body_run.sl.r_194 body_run.sl.r_195 body_run.sl.r_196 body_run.sl.r_197 body_run.sl.r_198 body_run.sl.r_199 body_run.sl.r_200 body_run.sl.r_201 body_run.sl.r_202 body_run.sl.r_203 body_run.sl.r_204 body_run.sl.r_205 body_run.sl.r_206 body_run.sl.r_207 body_run.sl.r_208 body_run.sl.r_209 body_run.sl.r_210 body_run.sl.r_211 body_run.sl.r_212 body_run.sl.r_213 body_run.sl.r_214 body_run.sl.r_215 body_run.sl.r_216 body_run.sl.r_217 body_run.sl.r_218 body_run.sl.r_219 body_run.sl.r_220 body_run.sl.r_221 body_run.sl.r_222 body_run.sl.r_223 body_run.sl.r_224 body_run.sl.r_225 body_run.sl.r_226 body_run.sl.r_227 body_run.sl.r_228 body_run.sl.r_229 body_run.sl.r_230 body_run.sl.r_231 body_run.sl.r_232 body_run.sl.r_233 body_run.sl.r_234 body_run.sl.r_235 body_run.sl.r_236 body_run.sl.r_237 body_run.sl.r_238 body_run.sl.r_239 body_run.sl.r_240 body_run.sl.r_241 body_run.sl.r_242 body_run.sl.r_243 body_run.sl.r_244 body_run.sl.r_245 body_run.sl.r_246 body_run.sl.r_247 body_run.sl.r_248 body_run.sl.r_249 body_run.sl.r_250 body_run.sl.r_251 body_run.sl.r_252 body_run.sl.r_253 body_run.sl.r_254 body_run.sl.r_255 body_run.sl.r_256 body_run.sl.r_257 body_run.sl.r_258 body_run.sl.r_259 body_run.sl.r_260 body_run.sl.r_261 body_run.sl.r_262 body_run.sl.r_263 body_run.sl.r_264 body_run.sl.r_265 body_run.sl.r_266 body_run.sl.r_267 body_run.sl.r_268 body_run.sl.r_269 body_run.sl.r_270 body_run.sl.r_271 body_run.sl.r_272 body_run.sl.r_273 body_run.sl.r_274 body_run.sl.r_275 body_run.sl.r_276 body_run.sl.r_277 body_run.sl.r_278 body_run.sl.r_279 body_run.sl.r_280 body_run.sl.r_281 body_run.sl.r_282 body_run.sl.r_283 body_run.sl.r_284 body_run.sl.r_285 body_run.sl.r_286 body_run.sl.r_287 body_run.sl.r_288 body_run.sl.r_289 body_run.sl.r_290 body_run.sl.r_291 body_run.sl.r_292 body_run.sl.r_293 body_run.sl.r_294 body_run.sl.r_295 body_run.sl.r_296 body_run.sl.r_297 body_run.sl.r_298 body_run.sl.r_299 body_run.sl.r_300 body_run.sl.r_301 body_run.sl.r_302 body_run.sl.r_303 body_run.sl.r_304 body_run.sl.r_305 body_run.sl.r_306 body_run.sl.r_307 body_run.sl.r_308 body_run.sl.r_309 body_run.sl.r_310 body_run.sl.r_311 body_run.sl.r_312 body_run.sl.r_313 body_run.sl.r_314 body_run.sl.r_315 body_run.sl.r_316 body_run.sl.r_317 body_run.sl.r_318 body_run.sl.r_319 body_run.sl.r_320 body_run.sl.r_321 body_run.sl.r_322 body_run.sl.r_323 body_run.sl.r_324 body_run.sl.r_325 body_run.sl.r_326 body_run.sl.r_327 body_run.sl.r_328 body_run.sl.r_329 body_run.sl.r_330 body_run.sl.r_331 body_run.sl.r_332 body_run.sl.r_333 body_run.sl.r_334 body_run.sl.r_335 body_run.sl.r_336 body_run.sl.r_337 body_run.sl.r_338 body_run.sl.r_339 body_run.sl.r_340 body_run.sl.r_341 body_run.sl.r_342 body_run.sl.r_343 body_run.sl.r_344 body_run.sl.r_345 body_run.sl.r_346 body_run.sl.r_347 body_run.sl.r_348 body_run.sl.r_349 body_run.sl.r_350 body_run.sl.r_351 body_run.sl.r_352 body_run.sl.r_353 body_run.sl.r_354 body_run.sl.r_355 body_run.sl.r_356 body_run.sl.r_357 body_run.sl.r_358 body_run.sl.r_359 body_run.sl.r_360 body_run.sl.r_361 body_run.sl.r_362 body_run.sl.r_363 body_run.sl.r_364 body_run.sl.r_365 body_run.sl.r_366 body_run.sl.r_367 body_run.sl.r_368 body_run.sl.r_369 body_run.sl.r_370 body_run.sl.r_371 body_run.sl.r_372 body_run.sl.r_373 body_run.sl.r_374 body_run.sl.r_375 body_run.sl.r_376 body_run.sl.r_377 body_run.sl.r_378 body_run.sl.r_379 body_run.sl.r_380 body_run.sl.r_381 body_run.sl.r_382 body_run.sl.r_383 body_run.sl.r_384 body_run.sl.r_385 body_run.sl.r_386 body_run.sl.r_387 body_run.sl.r_388 body_run.sl.r_389 body_run.sl.r_390 body_run.sl.r_391 body_run.sl.r_392 body_run.sl.r_393 body_run.sl.r_394 body_run.sl.r_395 body_run.sl.r_396 body_run.sl.r_397 body_run.sl.r_398 body_run.sl.r_399 body_run.sl.r_400 body_run.sl.r_401 body_run.sl.r_402 body_run.sl.r_403 body_run.sl.r_404 body_run.sl.r_405 body_run.sl.r_406 body_run.sl.r_407 body_run.sl.r_408 body_run.sl.r_409 body_run.sl.r_410 body_run.sl.r_411 body_run.sl.r_412 body_run.sl.r_413 body_run.sl.r_414
    simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, read_act, read_blk, read_w, read_b, read_v, read_c, tcOut, accI, accB, all32, hidI, hidB, maskB, logp, total, plane, hit, zeros]
    rfl

end Cert.KernelIdeal.Own

end
-- ==== Proof.KernelIdealRegion.lean ====
/-
  The dense kernel's region: what each grid point finds and leaves, and the region over the TensorCore's buffers.
-/
module

public import proofs.«01_k».proof.Proof.KernelIdealBody
public import Idealize.ShloMosaic.Lib.Pipeline.ValueKit

@[expose] public section

set_option maxRecDepth 16384

noncomputable section

namespace Cert.KernelIdeal.Own

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

variable (V : (c : Dev nD) → (b : Ref sig .tc) → Buf (Elt F) ((c : Thread nD τ).loc b)) (Rec : Dev nD → Set (SemLoc sig × HIx 1))

/-! ## The windows' contents -/

/-- Window `w`'s block at point `t`: its part of the window's array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The number point `t` computes. -/
def ptOut (c : Dev nD) (t : Fin cfg1.N) : F .f32 :=
  tcOut (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)

/-- The proof data: the arrays as the region finds them; after the body each operand's block as it was, the result's
    block the number computed; nothing owed. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => fun _ => ptOut V c t
  Φ _ := Pipeline.scopedRest spec1 c
  q _ := fullShare
  owed _ := 0
  recorded _ := Rec c

/-- The same, over the program's one pipelined call. -/
def pdats : (p : Fin 1) → (c : Dev nD) → Dat τ (Elt F) (HIx 1) ℕ UU ℕ (Pipeline.pin (pcfgs (F := F)) adm p) c
  | ⟨0, _⟩ => fun c => dat V Rec c

theorem A_eq (c : Dev nD) (w : Fin cfg1.W) : (dat V Rec c).A w = V c (Pipeline.arrRef spec1 w) := by dsimp only [dat]

theorem after_0 (c : Dev nD) (t : Fin cfg1.N) : (dat V Rec c).after 0 t = iblk V c 0 t := by dsimp only [dat]
theorem after_1 (c : Dev nD) (t : Fin cfg1.N) : (dat V Rec c).after 1 t = iblk V c 1 t := by dsimp only [dat]
theorem after_2 (c : Dev nD) (t : Fin cfg1.N) : (dat V Rec c).after 2 t = iblk V c 2 t := by dsimp only [dat]
theorem after_3 (c : Dev nD) (t : Fin cfg1.N) : (dat V Rec c).after 3 t = iblk V c 3 t := by dsimp only [dat]
theorem after_4 (c : Dev nD) (t : Fin cfg1.N) : (dat V Rec c).after 4 t = iblk V c 4 t := by dsimp only [dat]
theorem after_5 (c : Dev nD) (t : Fin cfg1.N) : (dat V Rec c).after 5 t = iblk V c 5 t := by dsimp only [dat]
theorem after_6 (c : Dev nD) (t : Fin cfg1.N) : (dat V Rec c).after 6 t = iblk V c 6 t := by dsimp only [dat]
theorem after_7 (c : Dev nD) (t : Fin cfg1.N) : (dat V Rec c).after 7 t = iblk V c 7 t := by dsimp only [dat]
theorem after_8 (c : Dev nD) (t : Fin cfg1.N) : (dat V Rec c).after 8 t = iblk V c 8 t := by dsimp only [dat]
theorem after_9 (c : Dev nD) (t : Fin cfg1.N) : (dat V Rec c).after 9 t = iblk V c 9 t := by dsimp only [dat]
theorem after_10 (c : Dev nD) (t : Fin cfg1.N) : (dat V Rec c).after 10 t = iblk V c 10 t := by dsimp only [dat]
theorem after_11 (c : Dev nD) (t : Fin cfg1.N) : (dat V Rec c).after 11 t = iblk V c 11 t := by dsimp only [dat]
theorem after_12 (c : Dev nD) (t : Fin cfg1.N) : (dat V Rec c).after 12 t = iblk V c 12 t := by dsimp only [dat]
theorem after_13 (c : Dev nD) (t : Fin cfg1.N) : (dat V Rec c).after 13 t = fun _ => ptOut V c t := by dsimp only [dat]

theorem before_0 (c : Dev nD) (t : Fin cfg1.N) (d) : (dat V Rec c).before 0 t d = iblk V c 0 t :=
  ((dat V Rec c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V Rec c).before 1 t d = iblk V c 1 t :=
  ((dat V Rec c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V Rec c).before 2 t d = iblk V c 2 t :=
  ((dat V Rec c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V Rec c).before 3 t d = iblk V c 3 t :=
  ((dat V Rec c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V Rec c).before 4 t d = iblk V c 4 t :=
  ((dat V Rec c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V Rec c).before 5 t d = iblk V c 5 t :=
  ((dat V Rec c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V Rec c).before 6 t d = iblk V c 6 t :=
  ((dat V Rec c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V Rec c).before 7 t d = iblk V c 7 t :=
  ((dat V Rec c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg1.N) (d) : (dat V Rec c).before 8 t d = iblk V c 8 t :=
  ((dat V Rec c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg1.N) (d) : (dat V Rec c).before 9 t d = iblk V c 9 t :=
  ((dat V Rec c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg1.N) (d) : (dat V Rec c).before 10 t d = iblk V c 10 t :=
  ((dat V Rec c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg1.N) (d) : (dat V Rec c).before 11 t d = iblk V c 11 t :=
  ((dat V Rec c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg1.N) (d) : (dat V Rec c).before 12 t d = iblk V c 12 t :=
  ((dat V Rec c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)

/-! ## The body at a grid point -/

theorem body_row (t : Fin cfg1.N) : defs₀ (F := F) .tc cfg1.body (cfg1.bodyArgs t (cfg1.slots t)) = bodyAt1 t := rfl

set_option maxHeartbeats 1200000 in
theorem body_obligation (c : Dev nD) : BodyObligation (dat V Rec c) (defs₀ (F := F)) 𝒱₀ none Set.univ := fun t => by
  rw [bigSep_W1, bigSep_W1, body_row]
  simp only [before_0, before_1, before_2, before_3, before_4, before_5, before_6, before_7, before_8, before_9, before_10, before_11, before_12]
  rw [show (dat V Rec c).Φ t.succ = (dat V Rec c).Φ t.castSucc from rfl,
    show (dat V Rec c).owesAt none t.succ = (dat V Rec c).owesAt none t.castSucc from rfl,
    after_0, after_1, after_2, after_3, after_4, after_5, after_6, after_7, after_8, after_9, after_10, after_11, after_12, after_13]
  unfold bodyAt1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((body_run c (grid1.coords t) _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-! ## The region -/

/-- The grid point that writes entry `j` of the result. -/
def ptOf (j : S128x1x1.Idx) : Fin cfg1.N := ⟨(j 0).val, (j 0).isLt⟩

/-- The result's array after the region: entry `b` is the number grid point `b` computes. -/
def arrOut (c : Dev nD) : S128x1x1.Idx → Elt F .f32 := fun j => ptOut V c (ptOf j)

theorem index_out : ∀ t : Fin cfg1.N, (cfg1.win 13).index t 0 = t.val := by decide +kernel

theorem arrAt_out (c : Dev nD) : (dat V Rec c).arrAt 13 cfg1.N = arrOut V c := by
  refine (dat V Rec c).arrAt_eq_of_covers 13 _ (by decide +kernel) fun t hf y => ?_
  blk_simp
  rw [after_13]
  show ptOut V c t = ptOut V c (ptOf _)
  refine congrArg (ptOut V c) (Fin.ext ?_)
  show t.val = (((cfg1.win 13).blk t).view.emb y 0 : ℕ)
  have hy : (y 0 : ℕ) < 1 := (y 0).isLt
  blk_simp [index_out]
  exact (index_out t).symm

variable (Vp : (c : Dev nD) → (b : Ref sig .tc) → Buf (Elt F) ((c : Thread nD τ).loc b))

theorem waits_zero (c : Dev nD) : (levAts (K (F := F)).L (K (F := F)).lev : sProp 𝕄) ⊢ Pipeline.cellsWaits (Pipeline.pin (pcfgs (F := F)) adm) (pdats V Rec) none 0 c :=
  Pipeline.hwaits_of_owed_zero _ _ _ _ (K (F := F)).L (K (F := F)).lev 0 (fun _ _ => rfl) c

set_option backward.isDefEq.respectTransparency.types false in
/-- The region between the buffers at `V` and the buffers at `Vp`, which is `V` but for the result's array. -/
def reg (hVp_out : ∀ c, Vp c main_v15 = arrOut V c) (hVp_ne : ∀ c (b : Ref sig .tc), b ≠ main_v15 → Vp c b = V c b) :
    Pipeline.RegionSeg (pcfgs (F := F)) adm (pdats V Rec) none defs₀ 𝒱₀ (K (F := F)).L (K (F := F)).lev 0 where
  win := winFacts1.to₀
  block_pos := block_pos1
  stage_whole := stage_whole1
  K := PEmpty
  osem k := k.elim
  ho := Pipeline.OwnSemFacts.none _
  hbody c := (body_obligation V Rec c).loose
  hwaits c := waits_zero V Rec c
  pre c := iprop(unscopedBufs c (V c) ∗ (dat V Rec c).owesAt none 0)
  post c := iprop(unscopedBufs c (Vp c) ∗ (dat V Rec c).owesAt none (Fin.last _))
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V Rec) winFacts1 arr_whole1 c
      ((pdats V Rec 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact Hrest
  hin c := by
    rw [show (pdats V Rec 0 c).Φ 0 = Pipeline.scopedRest spec1 c from rfl]
    iintro ⟨-, -, Hr⟩; iexact Hr
  hout c := by
    rw [Pipeline.ownSems0_none, show (pdats V Rec 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) winFacts1 arr_whole1 c
      (pdats V Rec) ((pdats V Rec 0 c).share_full fun _ => rfl) (V c) (Vp c) ((pdats V Rec 0 c).arrAt · cfg1.N)
      (fun w => by
        fin_cases w
        · exact ((pdats V Rec 0 c).arrAt_in 0 rfl _).trans (hVp_ne c (Pipeline.arrRef spec1 0) (by decide)).symm
        · exact ((pdats V Rec 0 c).arrAt_in 1 rfl _).trans (hVp_ne c (Pipeline.arrRef spec1 1) (by decide)).symm
        · exact ((pdats V Rec 0 c).arrAt_in 2 rfl _).trans (hVp_ne c (Pipeline.arrRef spec1 2) (by decide)).symm
        · exact ((pdats V Rec 0 c).arrAt_in 3 rfl _).trans (hVp_ne c (Pipeline.arrRef spec1 3) (by decide)).symm
        · exact ((pdats V Rec 0 c).arrAt_in 4 rfl _).trans (hVp_ne c (Pipeline.arrRef spec1 4) (by decide)).symm
        · exact ((pdats V Rec 0 c).arrAt_in 5 rfl _).trans (hVp_ne c (Pipeline.arrRef spec1 5) (by decide)).symm
        · exact ((pdats V Rec 0 c).arrAt_in 6 rfl _).trans (hVp_ne c (Pipeline.arrRef spec1 6) (by decide)).symm
        · exact ((pdats V Rec 0 c).arrAt_in 7 rfl _).trans (hVp_ne c (Pipeline.arrRef spec1 7) (by decide)).symm
        · exact ((pdats V Rec 0 c).arrAt_in 8 rfl _).trans (hVp_ne c (Pipeline.arrRef spec1 8) (by decide)).symm
        · exact ((pdats V Rec 0 c).arrAt_in 9 rfl _).trans (hVp_ne c (Pipeline.arrRef spec1 9) (by decide)).symm
        · exact ((pdats V Rec 0 c).arrAt_in 10 rfl _).trans (hVp_ne c (Pipeline.arrRef spec1 10) (by decide)).symm
        · exact ((pdats V Rec 0 c).arrAt_in 11 rfl _).trans (hVp_ne c (Pipeline.arrRef spec1 11) (by decide)).symm
        · exact ((pdats V Rec 0 c).arrAt_in 12 rfl _).trans (hVp_ne c (Pipeline.arrRef spec1 12) (by decide)).symm
        · exact (arrAt_out V Rec c).trans (hVp_out c).symm)
      (fun b hb => hVp_ne c b fun h => hb (h ▸ Finset.mem_image.mpr ⟨13, Finset.mem_univ _, rfl⟩))
    iintro ⟨Ha, HO, -, Hrest⟩
    imodintro
    isplitl [Ha Hrest]
    · iapply hjoin; isplitl [Ha] <;> iassumption
    iexact HO

end Cert.KernelIdeal.Own

end
-- ==== Proof.KernelIdealRun.lean ====
/-
  The whole program: @main on a TensorCore — the host's slices and reshapes, the SparseCore call, the pipelined call,
  the last reshape — and the program's run from the launch.
-/
module

public import proofs.«01_k».proof.Proof.KernelIdealCall
public import proofs.«01_k».proof.Proof.KernelIdealRegion
public import Idealize.ShloMosaic.Lib.StableHlo.RunLoop

@[expose] public section

set_option maxRecDepth 16384

noncomputable section

namespace Cert.KernelIdeal.Own

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)
open Idealize.ShloMosaic.Pipeline (ucRefs unscopedBufs_held sub_ucRefs)

variable {F : FTy → Type} [FloatOps F]

local notation "𝕄" => MT nD τ sig (HIx 1) (Elt F) ℕ UU ℕ

/-! ## The host's operations -/

/-- Before the SparseCore call: the four columns of the first argument, the first one rounded to integers. -/
def preOps : List (HloOp τ sig (Elt F)) := [
    StableHlo.unary main_arg0 main_v0 ((extractStridedSlice S128x32768x1 ![0, 0, 0] · slices_S128x32768x4_S128x32768x1_0_0_0) : (⟨S128x32768x4, .f32⟩ : BufTy).Contents (Elt F) → (⟨S128x32768x1, .f32⟩ : BufTy).Contents (Elt F)),
    StableHlo.reshape main_v0 main_v1 (rfl : (.f32 : EltTy) = .f32) shapeCasts_S128x32768x1_S128x32768,
    StableHlo.unary main_v1 main_v2 (fptosi 32 : (⟨S128x32768, .f32⟩ : BufTy).Contents (Elt F) → (⟨S128x32768, .i32⟩ : BufTy).Contents (Elt F)),
    StableHlo.unary main_arg0 main_v3 ((extractStridedSlice S128x32768x1 ![0, 0, 1] · slices_S128x32768x4_S128x32768x1_0_0_1) : (⟨S128x32768x4, .f32⟩ : BufTy).Contents (Elt F) → (⟨S128x32768x1, .f32⟩ : BufTy).Contents (Elt F)),
    StableHlo.reshape main_v3 main_v4 (rfl : (.f32 : EltTy) = .f32) shapeCasts_S128x32768x1_S128x32768,
    StableHlo.unary main_arg0 main_v5 ((extractStridedSlice S128x32768x1 ![0, 0, 2] · slices_S128x32768x4_S128x32768x1_0_0_2) : (⟨S128x32768x4, .f32⟩ : BufTy).Contents (Elt F) → (⟨S128x32768x1, .f32⟩ : BufTy).Contents (Elt F)),
    StableHlo.reshape main_v5 main_v6 (rfl : (.f32 : EltTy) = .f32) shapeCasts_S128x32768x1_S128x32768,
    StableHlo.unary main_arg0 main_v7 ((extractStridedSlice S128x32768x1 ![0, 0, 3] · slices_S128x32768x4_S128x32768x1_0_0_3) : (⟨S128x32768x4, .f32⟩ : BufTy).Contents (Elt F) → (⟨S128x32768x1, .f32⟩ : BufTy).Contents (Elt F)),
    StableHlo.reshape main_v7 main_v8 (rfl : (.f32 : EltTy) = .f32) shapeCasts_S128x32768x1_S128x32768]

/-- Between the two calls: the reshapes of the pipelined call's operands. -/
def midOps : List (HloOp τ sig (Elt F)) := [
    StableHlo.reshape main_v4 main_v10 (rfl : (.f32 : EltTy) = .f32) shapeCasts_S128x32768_S128x256x128,
    StableHlo.reshape main_v6 main_v11 (rfl : (.f32 : EltTy) = .f32) shapeCasts_S128x32768_S128x256x128,
    StableHlo.reshape main_v8 main_v12 (rfl : (.f32 : EltTy) = .f32) shapeCasts_S128x32768_S128x256x128,
    StableHlo.reshape main_v9 main_v13 (rfl : (.f32 : EltTy) = .f32) shapeCasts_S128x32768_S128x256x128,
    StableHlo.reshape main_arg9 main_v14 (rfl : (.i32 : EltTy) = .i32) shapeCasts_S128x2_S128x1x2]

/-- After the pipelined call: the result as a vector. -/
def lastOp : HloOp τ sig (Elt F) := StableHlo.reshape main_v15 main_v16 (rfl : (.f32 : EltTy) = .f32) shapeCasts_S128x1x1_S128

theorem main_eq (d : Dev nD) : main (F := F) d = (StableHlo.seq preOps >>= fun _ => sc.run d 0 >>= fun _ => StableHlo.seq midOps >>= fun _ =>
    Prog.lift (.customCall (SparseCore.inner (Pipeline.entry 0)) ()) >>= fun _ => hlo rfl lastOp fun _ => .ret ⟨⟩) := rfl

theorem pre_sub : ∀ op ∈ preOps (F := F), op.bufs ⊆ ucRefs τ sig := by
  intro op h
  refine sub_ucRefs op ?_
  simp only [preOps, List.mem_cons, List.not_mem_nil, or_false] at h
  rcases h with h | h | h | h | h | h | h | h | h <;> subst h <;> simp

theorem mid_sub : ∀ op ∈ midOps (F := F), op.bufs ⊆ ucRefs τ sig := by
  intro op h
  refine sub_ucRefs op ?_
  simp only [midOps, List.mem_cons, List.not_mem_nil, or_false] at h
  rcases h with h | h | h | h | h <;> subst h <;> simp

theorem last_sub : (lastOp (F := F)).bufs ⊆ ucRefs τ sig := sub_ucRefs _ (by simp [lastOp])

theorem pre_fresh : ∀ op ∈ preOps (F := F), op.fresh = ∅ := by
  intro op h
  simp only [preOps, List.mem_cons, List.not_mem_nil, or_false] at h
  rcases h with h | h | h | h | h | h | h | h | h <;> subst h <;> rfl

theorem mid_fresh : ∀ op ∈ midOps (F := F), op.fresh = ∅ := by
  intro op h
  simp only [midOps, List.mem_cons, List.not_mem_nil, or_false] at h
  rcases h with h | h | h | h | h <;> subst h <;> rfl

/-! ## The buffers through the program -/

variable (m : (ℓ : Loc nD τ sig) → Buf (Elt F) ℓ) (ρ : Dev nD → PrngReg)

/-- A TensorCore's buffer in the table of all the buffers. -/
abbrev dr (b : Ref sig .tc) : DevRef τ sig := Proc.devRef .tc b

/-- At the launch. -/
def W0 (d : Dev nD) : Valuation τ sig (Elt F) := fun b => m (d, b)
/-- At the SparseCore call. -/
def W1 (d : Dev nD) : Valuation τ sig (Elt F) := after preOps (W0 m d)
/-- What the SparseCore call reads and overwrites. -/
def fOf (d : Dev nD) : S128x32768.Idx → Elt F .f32 := W1 m d (dr main_v6)
def ixOf (d : Dev nD) : S128x32768.Idx → Elt F .i32 := W1 m d (dr main_v2)
def oOf (d : Dev nD) : S128x32768.Idx → Elt F .f32 := W1 m d (dr main_v9)
/-- After the SparseCore call. -/
def W2 (d : Dev nD) : Valuation τ sig (Elt F) := Function.update (W1 m d) (dr main_v9) (gath (fOf m d) (ixOf m d))
/-- At the pipelined call. -/
def W3 (d : Dev nD) : Valuation τ sig (Elt F) := after midOps (W2 m d)
/-- What the pipelined call finds in a TensorCore's buffers. -/
def VIn : (c : Dev nD) → (b : Ref sig .tc) → Buf (Elt F) ((c : Thread nD τ).loc b) := fun c b => W3 m c (dr b)
/-- After the pipelined call. -/
def W4 (d : Dev nD) : Valuation τ sig (Elt F) := Function.update (W3 m d) (dr main_v15) (arrOut (VIn m) d)
def VOut : (c : Dev nD) → (b : Ref sig .tc) → Buf (Elt F) ((c : Thread nD τ).loc b) := fun c b => W4 m c (dr b)
/-- At the end. -/
def W5 (d : Dev nD) : Valuation τ sig (Elt F) := (lastOp (F := F)).result (W4 m d)

theorem W4_out (d : Dev nD) : W4 m d (dr main_v15) = arrOut (VIn m) d := Function.update_self ..
theorem VOut_out (c : Dev nD) : VOut m c main_v15 = arrOut (VIn m) c := W4_out m c
theorem VOut_ne (c : Dev nD) (b : Ref sig .tc) (h : b ≠ main_v15) : VOut m c b = VIn m c b :=
  Function.update_of_ne (StableHlo.devRef_ne_of_ne h) _ _

/-- The three arrays of the SparseCore call out of all the buffers. -/
abbrev three : Finset (DevRef τ sig) := {dr main_v6, dr main_v2, dr main_v9}

theorem three_sub : three ⊆ ucRefs τ sig := by
  intro b hb
  simp only [three, Finset.mem_insert, Finset.mem_singleton] at hb
  rcases hb with rfl | rfl | rfl <;> exact StableHlo.devRef_mem_ucRefs _ (by decide)

theorem three_out : dr main_v9 ∈ three := by decide

theorem held_three (d : Dev nD) (W : Valuation τ sig (Elt F)) :
    (held (SparseCore.T d) three W : sProp 𝕄)
      = iprop((fLoc d ↦{fullShare} W (dr main_v6)) ∗ (iLoc d ↦{fullShare} W (dr main_v2)) ∗ oLoc d ↦{fullShare} W (dr main_v9)) := by
  unfold held three
  rw [bigSep_insert (by decide), bigSep_insert (by decide), bigSep_singleton]; rfl

theorem W2_f (d : Dev nD) : W2 m d (dr main_v6) = fOf m d := Function.update_of_ne (by decide) _ _
theorem W2_i (d : Dev nD) : W2 m d (dr main_v2) = ixOf m d := Function.update_of_ne (by decide) _ _
theorem W2_o (d : Dev nD) : W2 m d (dr main_v9) = gath (fOf m d) (ixOf m d) := Function.update_self ..

theorem held_W1 (d : Dev nD) : (held (SparseCore.T d) (ucRefs τ sig) (W1 m d) : sProp 𝕄)
    = iprop(((fLoc d ↦{fullShare} fOf m d) ∗ (iLoc d ↦{fullShare} ixOf m d) ∗ oLoc d ↦{fullShare} oOf m d)
        ∗ held (SparseCore.T d) (ucRefs τ sig \ three) (W1 m d)) := by
  rw [StableHlo.held_sub_split _ three_sub, held_three]; rfl

theorem held_rest (d : Dev nD) : (held (SparseCore.T d) (ucRefs τ sig \ three) (W2 m d) : sProp 𝕄) = held (SparseCore.T d) (ucRefs τ sig \ three) (W1 m d) :=
  StableHlo.held_congr _ fun b hb => by
    have h : b ≠ dr main_v9 := fun h => (Finset.mem_sdiff.mp hb).2 (by rw [h]; exact three_out)
    exact Function.update_of_ne h _ _

theorem held_W2 (d : Dev nD) : (held (SparseCore.T d) (ucRefs τ sig) (W2 m d) : sProp 𝕄)
    = iprop(((fLoc d ↦{fullShare} fOf m d) ∗ (iLoc d ↦{fullShare} ixOf m d) ∗ oLoc d ↦{fullShare} gath (fOf m d) (ixOf m d))
        ∗ held (SparseCore.T d) (ucRefs τ sig \ three) (W1 m d)) := by
  rw [StableHlo.held_sub_split _ three_sub, held_three, W2_f, W2_i, W2_o, held_rest]

/-! ## @main -/

variable [∀ e, Nonempty (Elt F e)]

/-- The pairs a TensorCore may have waited on before the pipelined call. -/
def Rec (c : Dev nD) : Set (SemLoc sig × HIx 1) := {p | (K (F := F)).lev (SparseCore.T c, p.1) p.2 ≤ 8}

/-- The pipelined call's region from what the host's operations leave. -/
def region : Pipeline.RegionSeg (pcfgs (F := F)) adm (pdats (VIn m) (Rec (F := F))) none defs₀ 𝒱₀ (K (F := F)).L (K (F := F)).lev 0 :=
  reg (VIn m) (Rec (F := F)) (VOut m) (VOut_out m) (VOut_ne m)

/-- What the pipelined call adds to what a TensorCore has waited on: its own staging cells, the lowest of all. -/
theorem within (d : Dev nD) (W : Waits sig (HIx 1)) (t) (h : ↑W ⊆ (dat (VIn m) (Rec (F := F)) d).bound none t) :
    (K (F := F)).WBelow (SparseCore.T d) W (8) := by
  intro p hp
  rcases h hp with h | ⟨w, s, rfl⟩
  · exact h
  · exact Nat.zero_le _

/-- The pipelined call as the program of the TensorCore alone. -/
def denseCall : Prog (TpuEff nD τ sig (Elt F) (ΛP (F := F)) .tc) PUnit := .op (.customCall (Pipeline.entry 0) ()) fun _ => .ret ⟨⟩

theorem dense_lift : (Prog.lift (.customCall (SparseCore.inner (Pipeline.entry 0)) ())
    : Prog (TpuEff nD τ sig (Elt F) (SparseCore.Sig (ΛP (F := F)) 1) .tc) PUnit) = SparseCore.liftProg (denseCall (F := F)) := rfl

theorem wp_lift (d : Dev nD) (Φ : PUnit → sProp 𝕄) :
    wp frame (wpE (D (F := F)) 𝒱 (d.tc : Thread nD τ) none) Set.univ (denseCall (F := F)) Φ
      ⊢ wp frame (wpE ((K (F := F)).defs (D (F := F))) 𝒱 (d.tc : Thread nD τ) none) Set.univ
          (Prog.lift (.customCall (SparseCore.inner (Pipeline.entry 0)) ())) Φ := by
  rw [dense_lift]
  exact (K (F := F)).wp_liftProg (D (F := F)) 𝒱 (d.tc : Thread nD τ) Set.univ none (denseCall (F := F)) Φ

/-- What the pipelined call starts from and leaves. -/
abbrev denseIn (d : Dev nD) : sProp 𝕄 := iprop(unscopedBufs d (VIn m d) ∗ (dat (VIn m) (Rec (F := F)) d).owesAt none 0)
abbrev denseOut (d : Dev nD) : sProp 𝕄 := iprop(unscopedBufs d (VOut m d) ∗ (dat (VIn m) (Rec (F := F)) d).owesAt none (Fin.last _))

theorem wp_inner (d : Dev nD) (Φ : PUnit → sProp 𝕄) :
    iprop((iprop(boundary (d.tc : Thread nD τ) ∗ denseOut m d) -∗ Φ ⟨⟩) ∗ boundary (d.tc : Thread nD τ) ∗ denseIn m d
        ∗ levAts (K (F := F)).L (K (F := F)).lev ∗ G (F := F) d)
      ⊢ wp frame (wpE (D (F := F)) 𝒱 (d.tc : Thread nD τ) none) Set.univ (denseCall (F := F)) Φ := by
  have h := Pipeline.RegionSeg.wp (pcfgs (F := F)) adm (pdats (VIn m) (Rec (F := F))) none pin_inj EP defs₀ 𝒱₀
    (K (F := F)).L (K (F := F)).lev (region m) d none (fun _ h => nomatch h) (fun _ => .ret ⟨⟩) Φ
  rw [wp_ret, show (region m).post d = denseOut m d from rfl, show (region m).pre d = denseIn m d from rfl] at h
  refine BIBase.Entails.trans ?_ h
  iintro ⟨Hk, Hb, Hpre, Hlev, HG⟩
  isplitl [Hk]
  · iintro H
    imodintro
    iapply Hk $$ H
  isplitl [Hb]; · iexact Hb
  isplitl [Hpre]; · iexact Hpre
  isplitl [Hlev]; · iexact Hlev
  iexact HG

theorem wp_dense (d : Dev nD) (Φ : PUnit → sProp 𝕄) :
    iprop((iprop(boundary (d.tc : Thread nD τ) ∗ denseOut m d) -∗ Φ ⟨⟩) ∗ boundary (d.tc : Thread nD τ) ∗ denseIn m d
        ∗ levAts (K (F := F)).L (K (F := F)).lev ∗ G (F := F) d)
      ⊢ wp frame (wpE ((K (F := F)).defs (D (F := F))) 𝒱 (d.tc : Thread nD τ) none) Set.univ
          (Prog.lift (.customCall (SparseCore.inner (Pipeline.entry 0)) ())) Φ :=
  BI.Entails.trans (wp_inner m d Φ) (wp_lift d Φ)

/-- What @main leaves: every buffer at what the program's steps make of it. -/
abbrev FIN (d : Dev nD) : sProp 𝕄 := held (SparseCore.T d) (ucRefs τ sig) (W5 m d)

set_option maxHeartbeats 400000 in
set_option backward.isDefEq.respectTransparency.types false in
theorem hmain (κ : GSem nD τ sig → ℕ) (d : Dev nD) :
    iprop((K (F := F)).ctx EH (P (fOf m) (ixOf m) (oOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d fun b => m ((SparseCore.T d).loc b) : sProp 𝕄) = held (SparseCore.T d) (ucRefs τ sig) (W0 m d) from
    unscopedBufs_held d (W0 m d)]
  rw [main_eq]
  iintro ⟨#Hctx, Hst, ⟨Hb, Hheld, Hts, -⟩, HG⟩
  iapply (StableHlo.wp_seq 𝒱 none Set.univ d (ucRefs τ sig) _ preOps pre_sub pre_fresh (W0 m d)) $$ [Hb Hheld]
  · isplitl [Hb] <;> iassumption
  iintro ⟨Hb, Hheld⟩
  ihave Hh := (Entails.of_eq (show held (d.tc : Thread nD τ) (ucRefs τ sig) (after preOps (W0 m d)) = _ from held_W1 m d)) $$ Hheld
  icases Hh with ⟨H3, Hrest⟩
  rw [wp_bind]
  iapply ((K (F := F)).wp_run (D (F := F)) 𝒱 (EH := EH) (P := P (fOf m) (ixOf m) (oOf m)) κ d 0) $$ [Hst H3 Hb Hrest Hts HG]
  isplitr; · iexact Hctx
  isplitl [Hst]; · iexact Hst
  isplitl [H3]
  · rw [st0_eq]; iexact H3
  iintro ⟨Hst, Hdn⟩
  ihave H3 := (Entails.of_eq (dn0_eq (fOf m) (ixOf m) (oOf m) d)) $$ Hdn
  ihave Hheld := (Entails.of_eq (held_W2 m d).symm) $$ [H3 Hrest]
  · isplitl [H3] <;> iassumption
  iapply (StableHlo.wp_seq 𝒱 none Set.univ d (ucRefs τ sig) _ midOps mid_sub mid_fresh (W2 m d)) $$ [Hb Hheld]
  · isplitl [Hb] <;> iassumption
  iintro ⟨Hb, Hheld⟩
  rw [wp_bind]
  unfold SparseCore.Cfg.tcSt
  icases Hst with ⟨⟨%W, %hW, HO⟩, Hst⟩
  ihave Hlev := (SparseCore.Cfg.ctx_levAts κ) $$ Hctx
  iapply (wp_dense m d _) $$ [Hb Hheld HG HO Hlev Hst Hts]
  isplitl [Hst Hts]
  · iintro ⟨Hb, Hpost⟩
    icases Hpost with ⟨Hub, ⟨%W', %hW', HO⟩⟩
    ihave Hheld := (Entails.of_eq (show (unscopedBufs d (VOut m d) : sProp 𝕄) = held (d.tc : Thread nD τ) (ucRefs τ sig) (W4 m d) from
      unscopedBufs_held d (W4 m d))) $$ Hub
    iapply (StableHlo.wp_hlo_within 𝒱 (d.tc : Thread nD τ) none Set.univ (op := lastOp) last_sub (V := W4 m d)) $$ [Hb Hheld]
    · isplitl [Hb] <;> iassumption
    iintro ⟨Hb, Hheld⟩
    rw [wp_ret]; imodintro
    isplitl [HO Hst]
    · isplitl [HO]
      · iexists W'
        isplitr
        · ipureintro; exact within m d W' _ hW'
        · rw [(K (F := F)).Otc_end d le_rfl]; iexact HO
      iexact Hst
    isplitl [Hheld]; · iexact Hheld
    isplitl [Hb] <;> iassumption
  isplitl [Hb]; · iexact Hb
  isplitl [Hheld HO]
  · isplitl [Hheld]
    · iapply (Entails.of_eq (show (unscopedBufs d (VIn m d) : sProp 𝕄) = held (d.tc : Thread nD τ) (ucRefs τ sig) (after midOps (W2 m d)) from
        unscopedBufs_held d (W3 m d)).symm) $$ Hheld
    · iexists W
      isplitr
      · ipureintro; exact fun p hp => Or.inl (hW p hp)
      · rw [show (K (F := F)).Otc d ((0 : Fin 1).val + 1) = 0 from (K (F := F)).Otc_end d le_rfl]; iexact HO
  isplitl [Hlev]; · iexact Hlev
  iexact HG

/-! ## The program's run -/

/-- What is read of a device's final state: every buffer no kernel allocates, at the end's contents. -/
def fq (d : Dev nD) (s' : Phys nD τ sig (Elt F)) : Prop := ∀ b ∈ ucRefs τ sig, s'.mem.mem (d, b) = W5 m d b

theorem hfin (d : Dev nD) (s' : Phys nD τ sig (Elt F)) : iprop(FIN m d ∗ SI s') ⊢ (⌜fq m d s'⌝ : sProp 𝕄) := by
  refine (forall_intro fun b => ?_).trans pure_forall.2
  refine (forall_intro fun hb => ?_).trans pure_forall.2
  have h : (FIN m d : sProp 𝕄) = iprop(((d, b) ↦{fullShare} W5 m d b) ∗ bigSep ((ucRefs τ sig).erase b) fun b => (d, b) ↦{fullShare} W5 m d b) :=
    bigSep_erase hb
  rw [h]
  iintro ⟨⟨Hb, -⟩, HSI⟩
  ihave H := (SI_pointsTo_agree (st := s') (ℓ := (d, b)) (I := Finset.univ) (q := fullShare) (f := W5 m d b)) $$ [HSI Hb]
  · isplitl [HSI] <;> iassumption
  icases H with %h
  ipureintro
  exact funext fun i => h i (Finset.mem_univ i)

/-- The program runs to the end from any launch contents whose rounded first column names positions, leaving every
    buffer at the end's contents and every counter at zero. -/
theorem run_main (hI : ∀ d j, (ixOf m d j).toNat < 32768) :
    θ_run (Cert.KernelIdeal.defs (F := F)) (Cert.KernelIdeal.threads (F := F)) ⟨m, fun _ => 0, ρ⟩
      (fun r => (∀ d : Dev nD, ∀ b ∈ ucRefs τ sig, r.2.mem (d, b) = W5 m d b) ∧ r.2.sem = fun _ => 0) :=
  SparseCore.Cfg.θ_run_sc_quiescent (K := K (F := F)) (D := D (F := F)) (𝒱 := 𝒱) (EH := EH) (P := P (fOf m) (ixOf m) (oOf m)) (A := ∅) facts v₀
    (fun q hq => match q with | 0 => nomatch hq)
    (fun q _ => match q with | 0 => tileObl (fOf m) (ixOf m) (oOf m) facts hI)
    (fun q _ => match q with | 0 => SparseCore.Cfg.VecSplit.of_plain (vecSplit (fOf m) (ixOf m) (oOf m)))
    m ρ main (G (F := F)) (FIN m) (u₀ (F := F)) (sep_elim_left.trans (hu₀ (fOf m) (ixOf m) (oOf m))) (hmain m ρ) (fq m) (hfin m) _
    (fun _ h hz => ⟨h, hz⟩)

end Cert.KernelIdeal.Own

end
-- ==== Proof.KernelIdealEnd.lean ====
/-
  What the program's run leaves in its arguments and its result, in terms of the launch contents.
-/
module

public import proofs.«01_k».proof.Proof.KernelIdealRun
public import proofs.«01_k».proof.Pre_rows_in_range
public import Idealize.ShloMosaic.Lib.ReduceAll

@[expose] public section

set_option maxRecDepth 16384

noncomputable section

namespace Cert.KernelIdeal.Own

open Cert.KernelIdeal Cert.KernelIdeal.Gen

open Idealize.ShloMosaic Idealize.ShloMosaic.TcCoe
open Idealize.SL Idealize.SL.Sem
open Idealize.ShloMosaic.StableHlo (after)
open Idealize.ShloMosaic.Pipeline (ucRefs)

variable {F : FTy → Type} [FloatOps F]

variable (m : (ℓ : Loc nD τ sig) → Buf (Elt F) ℓ) (ρ : Dev nD → PrngReg)

/-! ## The arguments -/

theorem pre_writes : (preOps (F := F)).Forall fun op => op.writes ⊆
    (([main_v0, main_v1, main_v2, main_v3, main_v4, main_v5, main_v6, main_v7, main_v8] : List (Ref sig .tc)).map (Proc.devRef (τ := τ) .tc)).toFinset := by
  simp only [preOps, List.Forall, StableHlo.unary_writes, StableHlo.reshape_writes]
  decide

theorem mid_writes : (midOps (F := F)).Forall fun op => op.writes ⊆
    (([main_v10, main_v11, main_v12, main_v13, main_v14] : List (Ref sig .tc)).map (Proc.devRef (τ := τ) .tc)).toFinset := by
  simp only [midOps, List.Forall, StableHlo.unary_writes, StableHlo.reshape_writes]
  decide

theorem pre_keep (d : Dev nD) (b : Ref sig .tc) (h : b ∉ ([main_v0, main_v1, main_v2, main_v3, main_v4, main_v5, main_v6, main_v7, main_v8] : List (Ref sig .tc))) :
    W1 m d (dr b) = m (d, dr b) :=
  StableHlo.after_of_writes_sub preOps (W0 m d) pre_writes h

theorem mid_keep (d : Dev nD) (b : Ref sig .tc) (h : b ∉ ([main_v10, main_v11, main_v12, main_v13, main_v14] : List (Ref sig .tc))) :
    W3 m d (dr b) = W2 m d (dr b) :=
  StableHlo.after_of_writes_sub midOps (W2 m d) mid_writes h

theorem sc_keep (d : Dev nD) (b : Ref sig .tc) (h : b ≠ main_v9) : W2 m d (dr b) = W1 m d (dr b) :=
  Function.update_of_ne (StableHlo.devRef_ne_of_ne h) _ _

/-- A buffer that no operation and no call writes ends as it was. -/
theorem keep (d : Dev nD) (b : Ref sig .tc)
    (h1 : b ∉ ([main_v0, main_v1, main_v2, main_v3, main_v4, main_v5, main_v6, main_v7, main_v8] : List (Ref sig .tc))) (h2 : b ≠ main_v9)
    (h3 : b ∉ ([main_v10, main_v11, main_v12, main_v13, main_v14] : List (Ref sig .tc))) (h4 : b ≠ main_v15) (h5 : b ≠ main_v16) :
    W5 m d (dr b) = m (d, dr b) :=
  (StableHlo.reshape_result_ne _ _ _ _ _ _ _ h5).trans <|
    (Function.update_of_ne (StableHlo.devRef_ne_of_ne h4) _ _).trans <|
      (mid_keep m d b h3).trans <| (sc_keep m d b h2).trans (pre_keep m d b h1)

theorem end_arg0 (d : Dev nD) : W5 m d (dr main_arg0) = m (d, dr main_arg0) := keep m d main_arg0 (by decide) (by decide) (by decide) (by decide) (by decide)
theorem end_arg1 (d : Dev nD) : W5 m d (dr main_arg1) = m (d, dr main_arg1) := keep m d main_arg1 (by decide) (by decide) (by decide) (by decide) (by decide)
theorem end_arg2 (d : Dev nD) : W5 m d (dr main_arg2) = m (d, dr main_arg2) := keep m d main_arg2 (by decide) (by decide) (by decide) (by decide) (by decide)
theorem end_arg3 (d : Dev nD) : W5 m d (dr main_arg3) = m (d, dr main_arg3) := keep m d main_arg3 (by decide) (by decide) (by decide) (by decide) (by decide)
theorem end_arg4 (d : Dev nD) : W5 m d (dr main_arg4) = m (d, dr main_arg4) := keep m d main_arg4 (by decide) (by decide) (by decide) (by decide) (by decide)
theorem end_arg5 (d : Dev nD) : W5 m d (dr main_arg5) = m (d, dr main_arg5) := keep m d main_arg5 (by decide) (by decide) (by decide) (by decide) (by decide)
theorem end_arg6 (d : Dev nD) : W5 m d (dr main_arg6) = m (d, dr main_arg6) := keep m d main_arg6 (by decide) (by decide) (by decide) (by decide) (by decide)
theorem end_arg7 (d : Dev nD) : W5 m d (dr main_arg7) = m (d, dr main_arg7) := keep m d main_arg7 (by decide) (by decide) (by decide) (by decide) (by decide)
theorem end_arg8 (d : Dev nD) : W5 m d (dr main_arg8) = m (d, dr main_arg8) := keep m d main_arg8 (by decide) (by decide) (by decide) (by decide) (by decide)
theorem end_arg9 (d : Dev nD) : W5 m d (dr main_arg9) = m (d, dr main_arg9) := keep m d main_arg9 (by decide) (by decide) (by decide) (by decide) (by decide)

/-! ## The calls' operands -/

/-- The first argument on device `d`. -/
abbrev state (d : Dev nD) : S128x32768x4.Idx → Elt F .f32 := m (d, dr main_arg0)

/-- Column `k` of an array of four. -/
def col0 (s : S128x32768x4.Idx → Elt F .f32) : S128x32768.Idx → Elt F .f32 :=
  shapeCast S128x32768 (extractStridedSlice S128x32768x1 ![0, 0, 0] s slices_S128x32768x4_S128x32768x1_0_0_0) shapeCasts_S128x32768x1_S128x32768
def col1 (s : S128x32768x4.Idx → Elt F .f32) : S128x32768.Idx → Elt F .f32 :=
  shapeCast S128x32768 (extractStridedSlice S128x32768x1 ![0, 0, 1] s slices_S128x32768x4_S128x32768x1_0_0_1) shapeCasts_S128x32768x1_S128x32768
def col2 (s : S128x32768x4.Idx → Elt F .f32) : S128x32768.Idx → Elt F .f32 :=
  shapeCast S128x32768 (extractStridedSlice S128x32768x1 ![0, 0, 2] s slices_S128x32768x4_S128x32768x1_0_0_2) shapeCasts_S128x32768x1_S128x32768
def col3 (s : S128x32768x4.Idx → Elt F .f32) : S128x32768.Idx → Elt F .f32 :=
  shapeCast S128x32768 (extractStridedSlice S128x32768x1 ![0, 0, 3] s slices_S128x32768x4_S128x32768x1_0_0_3) shapeCasts_S128x32768x1_S128x32768

theorem ixOf_eq (d : Dev nD) : ixOf m d = fptosi 32 (col0 (state m d)) := by
  unfold ixOf W1 preOps
  after_results
  rfl
theorem fOf_eq (d : Dev nD) : fOf m d = col2 (state m d) := by
  unfold fOf W1 preOps
  after_results
  rfl
theorem v4_eq (d : Dev nD) : W1 m d (dr main_v4) = col1 (state m d) := by
  unfold W1 preOps
  after_results
  rfl
theorem v8_eq (d : Dev nD) : W1 m d (dr main_v8) = col3 (state m d) := by
  unfold W1 preOps
  after_results
  rfl

theorem in_v10 (d : Dev nD) : VIn m d main_v10 = shapeCast S128x256x128 (col1 (state m d)) shapeCasts_S128x32768_S128x256x128 := by
  rw [← v4_eq, ← sc_keep m d main_v4 (by decide)]
  unfold VIn W3 midOps
  after_results
  rfl
theorem in_v11 (d : Dev nD) : VIn m d main_v11 = shapeCast S128x256x128 (col2 (state m d)) shapeCasts_S128x32768_S128x256x128 := by
  rw [← fOf_eq, fOf, ← sc_keep m d main_v6 (by decide)]
  unfold VIn W3 midOps
  after_results
  rfl
theorem in_v12 (d : Dev nD) : VIn m d main_v12 = shapeCast S128x256x128 (col3 (state m d)) shapeCasts_S128x32768_S128x256x128 := by
  rw [← v8_eq, ← sc_keep m d main_v8 (by decide)]
  unfold VIn W3 midOps
  after_results
  rfl
theorem in_v13 (d : Dev nD) : VIn m d main_v13
    = shapeCast S128x256x128 (gath (col2 (state m d)) (fptosi 32 (col0 (state m d)))) shapeCasts_S128x32768_S128x256x128 := by
  rw [← fOf_eq, ← ixOf_eq, ← W2_o]
  unfold VIn W3 midOps
  after_results
  rfl
theorem in_v14 (d : Dev nD) : VIn m d main_v14 = shapeCast S128x1x2 (m (d, dr main_arg9)) shapeCasts_S128x2_S128x1x2 := by
  rw [← pre_keep m d main_arg9 (by decide), ← sc_keep m d main_arg9 (by decide)]
  unfold VIn W3 midOps
  after_results
  rfl
theorem in_arg (d : Dev nD) (b : Ref sig .tc)
    (h1 : b ∉ ([main_v0, main_v1, main_v2, main_v3, main_v4, main_v5, main_v6, main_v7, main_v8] : List (Ref sig .tc))) (h2 : b ≠ main_v9)
    (h3 : b ∉ ([main_v10, main_v11, main_v12, main_v13, main_v14] : List (Ref sig .tc))) : VIn m d b = m (d, dr b) :=
  (mid_keep m d b h3).trans <| (sc_keep m d b h2).trans (pre_keep m d b h1)

/-! ## The result -/

theorem result_eq (d : Dev nD) : W5 m d (dr main_v16) = shapeCast S128 (arrOut (VIn m) d) shapeCasts_S128x1x1_S128 := by
  rw [← W4_out]
  exact StableHlo.reshape_result main_v15 main_v16 _ _ _ _ (W4 m d)

/-! ## The precondition -/

/-- The precondition bounds the rounded first column. -/
theorem rows_ok (d : Dev nD) (x1 : S32x3.Idx → F .f32) (x2 : S32.Idx → F .f32) (x3 : S1x32.Idx → F .f32) (x4 : S1.Idx → F .f32)
    (x5 : S32x3.Idx → F .f32) (x6 : S32.Idx → F .f32) (x7 : S1x32.Idx → F .f32) (x8 : S1.Idx → F .f32) (x9 : S128x2.Idx → BitVec 32)
    [Cert.Pre_rows_in_range.Facts]
    (h : Cert.Pre_rows_in_range.fn (F := F) (state m d) x1 x2 x3 x4 x5 x6 x7 x8 x9 = fun _ => 1#1) (j : S128x32768.Idx) :
    (ixOf m d j).toNat < 32768 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 32768#32) = 1#1 → v.toNat < 32768 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h (fun a => a.elim0)
  unfold Cert.Pre_rows_in_range.fn at e
  have e' := Host.reduce_andi_all _ _ _ _ _ e j
  rw [ixOf_eq]
  exact key _ e'

/-! ## The run, of the arguments and of the result -/

variable [∀ e, Nonempty (Elt F e)]

/-- The arguments end as they were and the counters at zero. -/
theorem run_args (hI : ∀ d j, (ixOf m d j).toNat < 32768) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run Cert.KernelIdeal.defs _ _).mono (fun _ h => ⟨fun c => ⟨(h.1 c (dr main_arg0) (StableHlo.devRef_mem_ucRefs _ (by decide))).trans (end_arg0 m c), (h.1 c (dr main_arg1) (StableHlo.devRef_mem_ucRefs _ (by decide))).trans (end_arg1 m c), (h.1 c (dr main_arg2) (StableHlo.devRef_mem_ucRefs _ (by decide))).trans (end_arg2 m c), (h.1 c (dr main_arg3) (StableHlo.devRef_mem_ucRefs _ (by decide))).trans (end_arg3 m c), (h.1 c (dr main_arg4) (StableHlo.devRef_mem_ucRefs _ (by decide))).trans (end_arg4 m c), (h.1 c (dr main_arg5) (StableHlo.devRef_mem_ucRefs _ (by decide))).trans (end_arg5 m c), (h.1 c (dr main_arg6) (StableHlo.devRef_mem_ucRefs _ (by decide))).trans (end_arg6 m c), (h.1 c (dr main_arg7) (StableHlo.devRef_mem_ucRefs _ (by decide))).trans (end_arg7 m c), (h.1 c (dr main_arg8) (StableHlo.devRef_mem_ucRefs _ (by decide))).trans (end_arg8 m c), (h.1 c (dr main_arg9) (StableHlo.devRef_mem_ucRefs _ (by decide))).trans (end_arg9 m c)⟩, h.2⟩) (run_main m ρ hI)

/-- The result ends at the pipelined call's numbers. -/
theorem run_result (hI : ∀ d j, (ixOf m d j).toNat < 32768) :
    θ_run (Cert.KernelIdeal.defs (F := F)) (Cert.KernelIdeal.threads (F := F)) ⟨m, fun _ => 0, ρ⟩ (fun r => ∀ c : Dev nD,
      r.2.mem ((c.tc : Thread nD τ).loc main_v16) = shapeCast S128 (arrOut (VIn m) c) shapeCasts_S128x1x1_S128) :=
  (θ_run Cert.KernelIdeal.defs _ _).mono (fun _ h c => (h.1 c (dr main_v16) (StableHlo.devRef_mem_ucRefs _ (by decide))).trans (result_eq m c))
    (run_main m ρ hI)

end Cert.KernelIdeal.Own

end
-- ==== Proof.Frames.lean ====
/-
  The claims that the programs run to the end leaving their arguments as they were and every counter at zero.
-/
module

public import proofs.«01_k».proof.Proof.KernelEnd
public import proofs.«01_k».proof.Proof.KernelIdealEnd
public import proofs.«01_k».proof.Proof.Gen.ReferenceIdeal
public import proofs.«01_k».proof.Proof.Gen.ReferenceIdeal.Run
public import proofs.«01_k».proof.Proof.Gen.Pre_rows_in_range

@[expose] public section

noncomputable section

namespace Cert.Proof

open Idealize.ShloMosaic Idealize.SL.Sem

theorem elt_nonempty_bits : ∀ e, Nonempty (Elt Bits e) := fun _ => inferInstance
theorem elt_nonempty_ideal : ∀ e, Nonempty (Elt Ideal e) := fun _ => inferInstance

theorem frame_kernel : Cert.quiescent_Kernel := fun m ρ hpre =>
  Cert.Kernel.Own.run_args (F := Bits) m ρ fun d j => Cert.Kernel.Own.rows_ok (F := Bits) m d _ _ _ _ _ _ _ _ _ (hpre d) j

theorem frame_ideal : Cert.quiescent_KernelIdeal := fun m ρ hpre =>
  Cert.KernelIdeal.Own.run_args (F := Ideal) m ρ fun d j => Cert.KernelIdeal.Own.rows_ok (F := Ideal) m d _ _ _ _ _ _ _ _ _ (hpre d) j

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Ranges.lean ====
/-
  The claims of `Frames` under the second precondition, which also bounds `action`.
-/
module

public import proofs.«01_k».proof.Proof.Frames
public import proofs.«01_k».proof.Proof.Gen.Pre_in_range

@[expose] public section

noncomputable section

namespace Cert.Proof

open Idealize.ShloMosaic Idealize.SL.Sem

/-- The second precondition's two parts: its first is the other precondition, its second bounds the pairs of `action`. -/
theorem in_range_split {F : FTy → Type} [FloatOps F] (x0 : Cert.Pre_in_range.S128x32768x4.Idx → F .f32)
    (x1 : Cert.Pre_in_range.S32x3.Idx → F .f32) (x2 : Cert.Pre_in_range.S32.Idx → F .f32) (x3 : Cert.Pre_in_range.S1x32.Idx → F .f32)
    (x4 : Cert.Pre_in_range.S1.Idx → F .f32) (x5 : Cert.Pre_in_range.S32x3.Idx → F .f32) (x6 : Cert.Pre_in_range.S32.Idx → F .f32)
    (x7 : Cert.Pre_in_range.S1x32.Idx → F .f32) (x8 : Cert.Pre_in_range.S1.Idx → F .f32) (x9 : Cert.Pre_in_range.S128x2.Idx → BitVec 32)
    (h : Cert.Pre_in_range.fn (F := F) x0 x1 x2 x3 x4 x5 x6 x7 x8 x9 = fun _ => 1#1) :
    (Cert.Pre_rows_in_range.fn (F := F) x0 x1 x2 x3 x4 x5 x6 x7 x8 x9 = fun _ => 1#1) ∧ ∀ j, (x9 j).toNat < 32768 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 32768#32) = 1#1 → v.toNat < 32768 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have both : ∀ k, Cert.Pre_rows_in_range.fn (F := F) x0 x1 x2 x3 x4 x5 x6 x7 x8 x9 k = 1#1 ∧ ∀ j, (x9 j).toNat < 32768 := fun k => by
    have e := congrFun h k
    unfold Cert.Pre_in_range.fn at e
    have e' := IntOp.andi_eq_one.1 e
    exact ⟨e'.1, fun j => key _ (Host.reduce_andi_all _ _ _ _ _ e'.2 j)⟩
  exact ⟨funext fun k => (both k).1, (both fun a => a.elim0).2⟩

theorem frame_ideal_in_range : Cert.quiescent_KernelIdeal_pre_in_range := fun m ρ hpre =>
  Cert.KernelIdeal.Own.run_args (F := Ideal) m ρ fun d j =>
    Cert.KernelIdeal.Own.rows_ok (F := Ideal) m d _ _ _ _ _ _ _ _ _ (in_range_split _ _ _ _ _ _ _ _ _ _ (hpre d)).1 j

theorem frame_reference_in_range : Cert.quiescent_ReferenceIdeal_pre_in_range := fun m ρ _ => frame_reference m ρ trivial

end Cert.Proof

end
-- ==== Proof.LogSoftmax.lean ====
/-
  The logarithm of a softmax, over the extended reals: subtracting the maximum before the exponentials changes nothing, whatever the logits are.
-/
module

public import Idealize.ShloMosaic.PureOps.Ideal.Laws

@[expose] public section

noncomputable section

namespace Cert.Proof

open Idealize.ShloMosaic

/-- The log-probability of entry `k` under the softmax of `a`, the quotient taken apart. -/
def lp {ι : Type} [Fintype ι] (a : ι → EReal) (k : ι) : EReal := a k - Ideal.log (∑ n, Ideal.exp (a n))

theorem exp_nonneg (x : EReal) : 0 ≤ Ideal.exp x := by
  induction x with
  | bot => exact le_refl _
  | top => exact le_top
  | coe r => exact EReal.coe_nonneg.2 (Real.exp_pos r).le

theorem exp_coe (r : ℝ) : Ideal.exp (r : EReal) = ((Real.exp r : ℝ) : EReal) := rfl

theorem exp_eq_zero (x : EReal) (h : Ideal.exp x = 0) : x = ⊥ := by
  induction x with
  | bot => rfl
  | top => exact absurd h (by decide)
  | coe r => exact absurd (EReal.coe_eq_zero.1 h) (Real.exp_pos r).ne'

/-- A sum of numbers, none negative, one of them infinite. -/
theorem sum_top {ι : Type} [Fintype ι] (f : ι → EReal) (hf : ∀ n, 0 ≤ f n) (k : ι) (hk : f k = ⊤) : ∑ n, f n = ⊤ := by
  have h := Finset.single_le_sum (f := f) (fun n _ => hf n) (Finset.mem_univ k)
  rw [hk] at h
  exact top_le_iff.1 h

theorem coe_sum {ι : Type} [Fintype ι] (g : ι → ℝ) : ∑ n, ((g n : ℝ) : EReal) = ((∑ n, g n : ℝ) : EReal) := by
  classical
  induction (Finset.univ : Finset ι) using Finset.induction_on with
  | empty => simp
  | insert a s ha ih => rw [Finset.sum_insert ha, Finset.sum_insert ha, ih, EReal.coe_add]

/-- The real number an exponential is, of a logit below `⊤`. -/
def ex : EReal → ℝ
  | (r : ℝ) => Real.exp r
  | _ => 0

theorem exp_eq_ex (x : EReal) (h : x ≠ ⊤) : Ideal.exp x = ((ex x : ℝ) : EReal) := by
  induction x with
  | bot => rfl
  | top => exact absurd rfl h
  | coe r => rfl

theorem exp_sub_eq (x : EReal) (h : x ≠ ⊤) (M : ℝ) : Ideal.exp (x - (M : EReal)) = ((ex x * Real.exp (-M) : ℝ) : EReal) := by
  induction x with
  | bot =>
    show Ideal.exp (⊥ - (M : EReal)) = ((0 * Real.exp (-M) : ℝ) : EReal)
    rw [zero_mul, EReal.bot_sub]; rfl
  | top => exact absurd rfl h
  | coe r =>
    rw [← EReal.coe_sub, exp_coe, sub_eq_add_neg, Real.exp_add]; rfl

theorem ex_nonneg (x : EReal) : 0 ≤ ex x := by
  induction x with
  | bot => exact le_refl _
  | top => exact le_refl _
  | coe r => exact (Real.exp_pos r).le

/-- The logarithm of the softmax, its logits lowered by their supremum, is the logit less the logarithm of the sum of the exponentials. -/
theorem log_softmax {ι : Type} [Fintype ι] (a : ι → EReal) (k : ι) (M : EReal) (hM : M = Finset.univ.sup a) :
    Ideal.log (Ideal.div (Ideal.exp (a k - M)) (∑ n, Ideal.exp (a n - M))) = lp a k := by
  have hle : ∀ n, a n ≤ M := fun n => hM ▸ Finset.le_sup (f := a) (Finset.mem_univ n)
  obtain ⟨j, -, hj⟩ := Finset.exists_mem_eq_sup Finset.univ ⟨k, Finset.mem_univ k⟩ a
  rw [← hM] at hj
  unfold lp
  induction M with
  | bot =>
    have hb : ∀ n, a n = ⊥ := fun n => le_bot_iff.1 (hle n)
    have e0 : Ideal.exp ⊥ = 0 := rfl
    simp only [hb, EReal.bot_sub, e0, Finset.sum_const_zero]
    show Ideal.log (Ideal.div 0 0) = _
    unfold Ideal.div
    rw [if_pos rfl, if_neg (lt_irrefl _)]; rfl
  | top =>
    have e0 : ∀ n, Ideal.exp (a n - ⊤) = 0 := fun n => by rw [EReal.sub_top]; rfl
    simp only [e0, Finset.sum_const_zero]
    rw [sum_top (fun n => Ideal.exp (a n)) (fun n => exp_nonneg _) j (by rw [← hj]; rfl)]
    unfold Ideal.div
    rw [if_pos rfl, if_neg (lt_irrefl _)]
    show ⊥ = a k - ⊤
    rw [EReal.sub_top]
  | coe M =>
    have ht : ∀ n, a n ≠ ⊤ := fun n h => by
      have := hle n; rw [h] at this; exact EReal.coe_ne_top M (top_le_iff.1 this)
    have hS : 0 < ∑ n, ex (a n) := by
      refine lt_of_lt_of_le ?_ (Finset.single_le_sum (f := fun n => ex (a n)) (fun n _ => ex_nonneg _) (Finset.mem_univ j))
      show 0 < ex (a j)
      rw [← hj]; exact Real.exp_pos M
    simp only [exp_sub_eq _ (ht _), exp_eq_ex _ (ht _), coe_sum]
    rw [← Finset.sum_mul]
    have hE : 0 < Real.exp (-M) := Real.exp_pos _
    generalize hs : ∑ n, ex (a n) = S at hS ⊢
    have hne : ((S * Real.exp (-M) : ℝ) : EReal) ≠ 0 := fun h => (mul_pos hS hE).ne' (EReal.coe_eq_zero.1 h)
    unfold Ideal.div
    rw [if_neg hne, ← EReal.coe_inv, ← EReal.coe_mul]
    have hq : ex (a k) * Real.exp (-M) * (S * Real.exp (-M))⁻¹ = ex (a k) / S := by field_simp
    rw [hq]
    have hlS : Ideal.log (S : EReal) = ((Real.log S : ℝ) : EReal) := if_neg (not_le.2 hS)
    rw [hlS]
    have hk := ht k
    generalize a k = x at hk ⊢
    induction x with
    | bot =>
      show Ideal.log ((0 / S : ℝ) : EReal) = ⊥ - _
      rw [zero_div, EReal.bot_sub]
      exact if_pos (le_refl _)
    | top => exact absurd rfl hk
    | coe r =>
      show (if Real.exp r / S ≤ 0 then (⊥ : EReal) else ((Real.log (Real.exp r / S) : ℝ) : EReal)) = _
      rw [if_neg (not_le.2 (div_pos (Real.exp_pos r) hS)), Real.log_div (Real.exp_pos r).ne' hS.ne', Real.log_exp, EReal.coe_sub]

end Cert.Proof

end
-- ==== Proof.RefIndex.lean ====
/-
  The reference's two gathers along the rows and its scatter, read at an index.
-/
module

public import proofs.«01_k».proof.Proof.Gen.ReferenceIdeal
public import Idealize.ShloMosaic.Lib.Pointwise
public import Idealize.ShloMosaic.Lib.Routing.OpsSet

@[expose] public section

noncomputable section

namespace Cert.Proof

open Idealize.ShloMosaic Cert.ReferenceIdeal Cert.ReferenceIdeal.Gen

variable {α : Type}

/-- The word of a row's index, read signed and held to the row. -/
def clampIx (v : BitVec 32) : Fin 32768 := ⟨min v.toInt.toNat 32767, by omega⟩

theorem clampIx_val (v : BitVec 32) (h : v.toNat < 32768) : (clampIx v).val = v.toNat := by
  show min v.toInt.toNat 32767 = v.toNat
  rw [BitVec.toInt_eq_toNat_of_lt (by omega), Int.toNat_natCast]; omega

theorem gather_cols (x : S128x32768x1.Idx → α) (idx : IVec S128x32768x1 32) (b : Fin 128) (n : Fin 32768) (z : Fin 1) :
    Host.gather gather_S128x32768x1_S128x32768x1_S128x32768x1_2_1_0_0_1_2_111 x idx (ix3 b n z) = x (ix3 b (clampIx (idx (ix3 b n 0))) z) := by
  unfold Host.gather
  congr 1
  funext a
  refine Fin.ext ?_
  generalize hd : gather_S128x32768x1_S128x32768x1_S128x32768x1_2_1_0_0_1_2_111 = d
  have hob : d.operandBatchingDims = [0] := hd ▸ rfl
  have hcs : d.collapsedSliceDims = [1] := hd ▸ rfl
  have hsm : d.startIndexMap = [1] := hd ▸ rfl
  show d.start (ix3 b n z) idx a + d.batchCoord (ix3 b n z) a + d.offCoord (ix3 b n z) a = _
  match a with
  | ⟨0, _⟩ =>
    show d.start (ix3 b n z) idx 0 + d.batchCoord (ix3 b n z) 0 + d.offCoord (ix3 b n z) 0 = b.val
    rw [GatherDims.start_batching _ _ _ _ (hob ▸ List.mem_singleton.mpr rfl),
      GatherDims.offCoord_eq_zero _ _ _ (fun h => ((GatherDims.mem_sKept _ _).mp h).2 (hob ▸ List.mem_singleton.mpr rfl))]
    simp only [Nat.zero_add, Nat.add_zero]
    subst hd
    unfold GatherDims.batchCoord
    rw [dif_pos (show (0 : Fin 3) ∈ gather_S128x32768x1_S128x32768x1_S128x32768x1_2_1_0_0_1_2_111.operandBatchingDims from List.mem_singleton.mpr rfl)]
    rfl
  | ⟨1, _⟩ =>
    show d.start (ix3 b n z) idx 1 + d.batchCoord (ix3 b n z) 1 + d.offCoord (ix3 b n z) 1 = min (idx (ix3 b n 0)).toInt.toNat 32767
    rw [GatherDims.batchCoord_eq_zero _ _ _ (by rw [hob]; decide),
      GatherDims.offCoord_eq_zero _ _ _ (fun h => ((GatherDims.mem_sKept _ _).mp h).1 (hcs ▸ List.mem_singleton.mpr rfl))]
    simp only [Nat.add_zero]
    subst hd
    unfold GatherDims.start
    rw [dif_pos (show (1 : Fin 3) ∈ gather_S128x32768x1_S128x32768x1_S128x32768x1_2_1_0_0_1_2_111.startIndexMap from List.mem_singleton.mpr rfl)]
    have hsi : GatherDims.siIdx gather_S128x32768x1_S128x32768x1_S128x32768x1_2_1_0_0_1_2_111 (ix3 b n z) ⟨List.idxOf (1 : Fin 3) [1],
        List.idxOf_lt_length_iff.2 (List.mem_singleton.mpr rfl)⟩ = ix3 b n 0 := by
      funext c; refine Fin.ext ?_
      match c with
      | ⟨0, _⟩ => rfl
      | ⟨1, _⟩ => rfl
      | ⟨2, _⟩ => rfl
    exact congrArg (fun i => min (idx i).toInt.toNat 32767) hsi
  | ⟨2, _⟩ =>
    have h := d.lt (ix3 b n z) idx 2
    have h' : z.val < 1 := z.isLt
    show d.start (ix3 b n z) idx 2 + d.batchCoord (ix3 b n z) 2 + d.offCoord (ix3 b n z) 2 = z.val
    change _ < 1 at h
    omega

theorem gather_rows (x : S128x32768.Idx → α) (idx : IVec S128x1x1 32) (b : Fin 128) (z : Fin 1) :
    Host.gather gather_S128x32768_S128x1x1_S128x1_n_1_0_0_1_2_11 x idx (ix2 b z) = x (ix2 b (clampIx (idx (ix3 b 0 0)))) := by
  unfold Host.gather
  congr 1
  funext a
  refine Fin.ext ?_
  generalize hd : gather_S128x32768_S128x1x1_S128x1_n_1_0_0_1_2_11 = d
  have hob : d.operandBatchingDims = [0] := hd ▸ rfl
  have hcs : d.collapsedSliceDims = [1] := hd ▸ rfl
  have hsm : d.startIndexMap = [1] := hd ▸ rfl
  have hz : z = 0 := Subsingleton.elim _ _
  subst hz
  show d.start (ix2 b 0) idx a + d.batchCoord (ix2 b 0) a + d.offCoord (ix2 b 0) a = _
  match a with
  | ⟨0, _⟩ =>
    show d.start (ix2 b 0) idx 0 + d.batchCoord (ix2 b 0) 0 + d.offCoord (ix2 b 0) 0 = b.val
    rw [GatherDims.start_batching _ _ _ _ (hob ▸ List.mem_singleton.mpr rfl),
      GatherDims.offCoord_eq_zero _ _ _ (fun h => ((GatherDims.mem_sKept _ _).mp h).2 (hob ▸ List.mem_singleton.mpr rfl))]
    simp only [Nat.zero_add, Nat.add_zero]
    subst hd
    unfold GatherDims.batchCoord
    rw [dif_pos (show (0 : Fin 2) ∈ gather_S128x32768_S128x1x1_S128x1_n_1_0_0_1_2_11.operandBatchingDims from List.mem_singleton.mpr rfl)]
    rfl
  | ⟨1, _⟩ =>
    show d.start (ix2 b 0) idx 1 + d.batchCoord (ix2 b 0) 1 + d.offCoord (ix2 b 0) 1 = min (idx (ix3 b 0 0)).toInt.toNat 32767
    rw [GatherDims.batchCoord_eq_zero _ _ _ (by rw [hob]; decide),
      GatherDims.offCoord_eq_zero _ _ _ (fun h => ((GatherDims.mem_sKept _ _).mp h).1 (hcs ▸ List.mem_singleton.mpr rfl))]
    simp only [Nat.add_zero]
    subst hd
    unfold GatherDims.start
    rw [dif_pos (show (1 : Fin 2) ∈ gather_S128x32768_S128x1x1_S128x1_n_1_0_0_1_2_11.startIndexMap from List.mem_singleton.mpr rfl)]
    have hsi : GatherDims.siIdx gather_S128x32768_S128x1x1_S128x1_n_1_0_0_1_2_11 (ix2 b 0) ⟨List.idxOf (1 : Fin 2) [1],
        List.idxOf_lt_length_iff.2 (List.mem_singleton.mpr rfl)⟩ = ix3 b 0 0 := by
      funext c; refine Fin.ext ?_
      match c with
      | ⟨0, _⟩ => rfl
      | ⟨1, _⟩ => rfl
      | ⟨2, _⟩ => rfl
    exact congrArg (fun i => min (idx i).toInt.toNat 32767) hsi

/-- Update `k` of the scatter lands where its pair of index words, read signed, says. -/
theorem scatter_start (idx : IVec S128x2 32) (k : Fin 128) (q : Fin 2) :
    scatter_S128x32768_S128x2_S128_n_01_01_1.start (ix1 k) idx q = (idx (ix2 k q)).toInt := by
  have hm : q ∈ scatter_S128x32768_S128x2_S128_n_01_01_1.scatterDimsToOperandDims := by
    show q ∈ [0, 1]; fin_cases q <;> simp
  have hsi : scatter_S128x32768_S128x2_S128_n_01_01_1.siIdx (ix1 k)
      ⟨scatter_S128x32768_S128x2_S128_n_01_01_1.scatterDimsToOperandDims.idxOf q, List.idxOf_lt_length_iff.2 hm⟩ = ix2 k q := by
    funext c
    refine Fin.ext ?_
    match c with
    | ⟨0, _⟩ => rfl
    | ⟨1, _⟩ => fin_cases q <;> rfl
  unfold ScatterDims.start
  rw [dif_pos hm, hsi]

theorem scatter_lands (idx : IVec S128x2 32) (k b : Fin 128) (n : Fin 32768) :
    scatter_S128x32768_S128x2_S128_n_01_01_1.resultIdx? (ix1 k) idx = some (ix2 b n)
      ↔ (idx (ix2 k 0)).toInt = b.val ∧ (idx (ix2 k 1)).toInt = n.val := by
  have hwin : ∀ q : Fin 2, scatter_S128x32768_S128x2_S128_n_01_01_1.window (ix1 k) q = 0 := fun q => by
    unfold ScatterDims.window
    rw [dif_neg fun h => (of_decide_eq_true (List.mem_filter.1 h).2) (by show q ∈ [0, 1]; fin_cases q <;> simp)]
  rw [Routing.resultIdx?_eq_some]
  constructor
  · intro h
    have h0 := h 0
    have h1 := h 1
    rw [scatter_start, hwin] at h0 h1
    exact ⟨by simpa using h0, by simpa using h1⟩
  · rintro ⟨h0, h1⟩ a
    rw [scatter_start, hwin]
    match a with
    | ⟨0, _⟩ => exact (Int.add_zero _).trans h0
    | ⟨1, _⟩ => exact (Int.add_zero _).trans h1

/-- The scatter of one value by pairs (row, entry) that name each row once: each row's entry is set. -/
theorem scatter_read (x : S128x32768.Idx → α) (idx : IVec S128x2 32) (upd : S128.Idx → α) (v : α) (hupd : ∀ k, upd k = v)
    (h0 : ∀ k : Fin 128, (idx (ix2 k 0)).toInt = k.val) (b : Fin 128) (n : Fin 32768) :
    Host.scatter scatter_S128x32768_S128x2_S128_n_01_01_1 (fun _ b => b) x idx upd (ix2 b n)
      = if (idx (ix2 b 1)).toInt = n.val then v else x (ix2 b n) := by
  by_cases h : (idx (ix2 b 1)).toInt = n.val
  · rw [if_pos h]
    exact Routing.scatter_set_hit _ x idx upd _ v (fun k _ => hupd k) (ix1 b) ((scatter_lands idx b b n).2 ⟨h0 b, h⟩)
  · rw [if_neg h]
    refine Routing.scatter_set_miss _ x idx upd _ fun k hk => h ?_
    obtain ⟨c, rfl⟩ : ∃ c : Fin 128, k = ix1 c := ⟨k 0, eq_ix1 k⟩
    have hl := (scatter_lands idx c b n).1 hk
    have e := hl.1
    rw [h0] at e
    have e' : c = b := Fin.ext (by exact_mod_cast e)
    rw [← e']; exact hl.2

end Cert.Proof

end
-- ==== Proof.Spec.lean ====
/-
  The mathematics of the problem, entry by entry, over the extended reals: the two networks' logits and the sum of the two log-probabilities.
-/
module

public import proofs.«01_k».proof.Proof.LogSoftmax
public import proofs.«01_k».proof.Proof.RefIndex

@[expose] public section

noncomputable section

namespace Cert.Proof

open Idealize.ShloMosaic Cert.ReferenceIdeal

/-- The word a float index is cast to. -/
def word (s : S128x32768x4.Idx → EReal) (r : Fin 128) (n : Fin 32768) : BitVec 32 := Ideal.fptosi 32 (s (ix3 r n 0))

/-- A network of three inputs, thirty-two hidden units and one output. -/
def mlp (z0 z1 z2 : EReal) (w : S32x3.Idx → EReal) (b : S32.Idx → EReal) (v : S1x32.Idx → EReal) (o : S1.Idx → EReal) : EReal :=
  ∑ k : Fin 32, max (z0 * w (ix2 k 0) + z1 * w (ix2 k 1) + z2 * w (ix2 k 2) + b (ix1 k)) 0 * v (ix2 0 k) + o (ix1 0)

/-- The number the mask adds to a logit it hides. -/
def hide : EReal := Ideal.ofBits .f32 0xFF7FFFFF#32

/-- The items' logits of row `r`. -/
def itemLogit (s : S128x32768x4.Idx → EReal) (w : S32x3.Idx → EReal) (b : S32.Idx → EReal) (v : S1x32.Idx → EReal) (o : S1.Idx → EReal)
    (r : Fin 128) (n : Fin 32768) : EReal :=
  mlp (s (ix3 r n 1)) (s (ix3 r (clampIx (word s r n)) 2)) (s (ix3 r n 3)) w b v o

/-- What the mask adds to the bins' logits: the bins that the item overfills are hidden, and the item's own entry. -/
def mask (s : S128x32768x4.Idx → EReal) (i : Fin 32768) (r : Fin 128) (n : Fin 32768) : EReal :=
  if n = i then hide else if 0 < s (ix3 r i 1) - s (ix3 r n 2) then hide else 0

/-- The bins' logits of row `r`, where the item is `i`. -/
def binLogit (s : S128x32768x4.Idx → EReal) (w : S32x3.Idx → EReal) (b : S32.Idx → EReal) (v : S1x32.Idx → EReal) (o : S1.Idx → EReal)
    (i : Fin 32768) (r : Fin 128) (n : Fin 32768) : EReal :=
  mlp (s (ix3 r i 1)) (s (ix3 r n 2)) (s (ix3 r n 3)) w b v o + mask s i r n

end Cert.Proof

end
-- ==== Proof.RefReads.lean ====
/-
  The reference's arrays read at an index.
-/
module

public import proofs.«01_k».proof.Proof.Spec
public import proofs.«01_k».proof.Proof.Gen.ReferenceIdeal.Run
public import Idealize.ShloMosaic.Lib.Pointwise
public import Idealize.ShloMosaic.Lib.ReduceAll
public import Idealize.ShloMosaic.Lib.IdealHost
public import Idealize.ShloMosaic.Lib.Tactic.CleanTypes

@[expose] public section

noncomputable section

namespace Cert.Proof

open Idealize.ShloMosaic Idealize.ShloMosaic.TcCoe Idealize.ShloMosaic.StableHlo Cert.ReferenceIdeal Cert.ReferenceIdeal.Gen Cert.ReferenceIdeal.Value

/-- The contents of the device's buffers, floats the extended reals. -/
abbrev Vals := Valuation τ sig (Elt Ideal)

def stateOf (V0 : Vals) : S128x32768x4.Idx → EReal := V0 (Proc.devRef .tc main_arg0)
def actOf (V0 : Vals) : S128x2.Idx → BitVec 32 := V0 (Proc.devRef .tc main_arg9)

theorem ref_word (V0 : Vals) (r : Fin 128) (n : Fin 32768) (z : Fin 1) (h : (word (stateOf V0) r n).toNat < 32768) :
    res_main_call0_v4 V0 (ix3 r n z) = word (stateOf V0) r n := by
  unfold res_main_call0_v4 res_main_v8
  clean_types
  pointwise
  exact Routing.wrap_of_lt (w := 32) (word (stateOf V0) r n) _ (lt_trans h (by norm_num))

theorem ref_act (V0 : Vals) (r : Fin 128) (h : (actOf V0 (ix2 r 0)).toNat < 32768) :
    res_main_call1_v5 V0 (ix3 r 0 0) = actOf V0 (ix2 r 0) := by
  unfold res_main_call1_v5 res_main_v35 res_main_v5
  clean_types
  pointwise
  exact Routing.wrap_of_lt (w := 32) (actOf V0 (ix2 r 0)) _ (lt_trans h (by norm_num))

/-- A word that names an entry passes the reference's range test. -/
theorem range_test (v : BitVec 32) (h : v.toNat < 32768) : IntOp.andi (IntOp.cmpi .sge v 0#32) (IntOp.cmpi .sle v 32767#32) = 1#1 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod]
  omega

theorem fold_one (f : Fin 1 → BitVec 1) (h : f 0 = 1#1) : Finset.fold IntOp.andi (1#1) f Finset.univ = 1#1 := by
  rw [Finset.univ_unique, Finset.fold_singleton]
  show IntOp.andi (f 0) 1#1 = 1#1
  rw [h]; decide

/-- The gathered free capacity. -/
theorem ref_gathered (V0 : Vals) (r : Fin 128) (n : Fin 32768) (z : Fin 1) (h : (word (stateOf V0) r n).toNat < 32768) (y : EReal) :
    Scalar.select (Finset.fold IntOp.andi (1#1)
        (fun x : Fin 1 => IntOp.andi (IntOp.cmpi .sge (res_main_call0_v4 V0 (ix3 r n x) : BitVec 32) 0#32) (IntOp.cmpi .sle (res_main_call0_v4 V0 (ix3 r n x) : BitVec 32) 32767#32))
        Finset.univ)
      (Host.gather gather_S128x32768x1_S128x32768x1_S128x32768x1_2_1_0_0_1_2_111
        (extractStridedSlice S128x32768x1 ![0, 0, 2] (stateOf V0) slices_S128x32768x4_S128x32768x1_0_0_2)
        (res_main_call0_v4 V0) (ix3 r n z)) y = stateOf V0 (ix3 r (clampIx (word (stateOf V0) r n)) 2) := by
  rw [fold_one _ (by rw [ref_word V0 r n 0 h]; exact range_test _ h), gather_cols, ref_word V0 r n 0 h]
  pointwise

theorem ref_logit (V0 : Vals) (r : Fin 128) (n : Fin 32768) (h : (word (stateOf V0) r n).toNat < 32768) :
    (res_main_v23 V0 : S128x32768.Idx → EReal) (ix2 r n) = itemLogit (stateOf V0) (V0 (Proc.devRef .tc main_arg1)) (V0 (Proc.devRef .tc main_arg2))
      (V0 (Proc.devRef .tc main_arg3)) (V0 (Proc.devRef .tc main_arg4)) r n := by
  unfold res_main_v23 res_main_v1 res_main_v2 res_main_v3
  clean_types
  pointwise
  unfold itemLogit mlp
  refine congrArg (· + _) (Finset.sum_congr rfl fun k _ => ?_)
  refine congrArg (fun x => max (x + _) 0 * _) ?_
  rw [Fin.sum_univ_three]
  refine congrArg₂ (· + ·) (congrArg₂ (· + ·) rfl (congrArg (· * _) ?_)) rfl
  exact ref_gathered V0 r n _ h _

/-! ## The softmax -/

theorem ofBits_bot : Ideal.ofBits .f32 0xFF800000#32 = ⊥ := by
  simp [Ideal.ofBits, Ideal.ieee]

theorem fold_sup {ι : Type} (t : Finset ι) (f : ι → EReal) : Finset.fold max ⊥ f t = t.sup f := rfl

theorem row_max (x : FVec Ideal S128x32768 .f32) (j : S128.Idx) :
    Host.reduce (FloatOps.maximumf (F := Ideal) (φ := .f32)) x (constant S_ .f32 0xFF800000#32) reducesTo_S128x32768_S128_d1 h_S_ j
      = Finset.univ.sup fun n : Fin 32768 => x (ix2 (j 0) n) := by
  have hr : S128x32768.Reduces [1] S128 := by decide
  rw [Host.reduce_eq_fold_single _ x _ reducesTo_S128x32768_S128_d1 hr h_S_ j]
  rw [← fold_sup]
  have e : (x ∘ hr.lift j) = fun n : Fin 32768 => x (ix2 (j 0) n) := by
    funext n
    refine congrArg x ?_
    funext a
    refine Fin.ext ?_
    match a with
    | ⟨0, _⟩ => rfl
    | ⟨1, _⟩ => rfl
  rw [e, show (constant (F := Ideal) S_ .f32 0xFF800000#32) (Shape.Idx.first h_S_) = (⊥ : EReal) from ofBits_bot]
  rfl

theorem spread_read (m : FVec Ideal S128 .f32) (r : Fin 128) (n : Fin 32768) :
    broadcastInDim S128x32768 ![0, 1] bcast_S128x1_S128x32768_0_1 (broadcastInDim S128x1 ![0] bcast_S128_S128x1_0 m) (ix2 r n) = m (ix1 r) := by
  pointwise

theorem splat_read (c : FVec Ideal S_ .f32) (r : Fin 128) :
    (broadcastInDim S128 ![] bcast_S_S128 c) (ix1 r) = c ix0 := by
  pointwise

theorem exp_sub_read (x : FVec Ideal S128x32768 .f32) (m : FVec Ideal S128x32768 .f32) (r : Fin 128) (n : Fin 32768) :
    Host.exp (subf x m) (ix2 r n) = Ideal.exp (x (ix2 r n) - m (ix2 r n)) := by
  pointwise

theorem max_read (m c : FVec Ideal S128 .f32) (r : Fin 128) : maximumf c m (ix1 r) = max (c (ix1 r)) (m (ix1 r)) := rfl

/-- The exponentials of the logits `x`, each row lowered by its maximum. -/
def lowered (x : FVec Ideal S128x32768 .f32) : FVec Ideal S128x32768 .f32 :=
  Host.exp (subf x (broadcastInDim S128x32768 ![0, 1] bcast_S128x1_S128x32768_0_1 (broadcastInDim S128x1 ![0] bcast_S128_S128x1_0
    (maximumf (broadcastInDim S128 ![] bcast_S_S128 (constant S_ .f32 0xFF800000#32))
      (Host.reduce FloatOps.maximumf x (constant S_ .f32 0xFF800000#32) reducesTo_S128x32768_S128_d1 h_S_)))))

theorem lowered_read (x : FVec Ideal S128x32768 .f32) (r : Fin 128) (n : Fin 32768) :
    lowered x (ix2 r n) = Ideal.exp (x (ix2 r n) - Finset.univ.sup fun n : Fin 32768 => x (ix2 r n)) := by
  unfold lowered
  rw [exp_sub_read, spread_read, max_read, splat_read (constant S_ .f32 0xFF800000#32), row_max]
  have e : (constant (F := Ideal) S_ .f32 0xFF800000#32) ix0 = (⊥ : EReal) := ofBits_bot
  rw [e]
  have e2 : ∀ y : EReal, max ⊥ y = y := fun y => bot_sup_eq y
  rw [e2]
  rfl

/-- The logarithm of the probability that a row's index names. -/
def picked (x : FVec Ideal S128x32768 .f32) (ix : IVec S128x1x1 32) : FVec Ideal S128x1 .f32 :=
  Host.log (select (Host.reduce IntOp.andi (andi (cmpi .sge ix (broadcastInDim S128x1x1 ![] bcast_S_S128x1x1 (constantI S_ 32 0#32))) (cmpi .sle ix (broadcastInDim S128x1x1 ![0, 1, 2] bcast_S1x1x1_S128x1x1_0_1_2 (broadcastInDim S1x1x1 ![2] bcast_S1_S1x1x1_2 (constantI S1 32 32767#32))))) (constantI S_ 1 1#1) reducesTo_S128x1x1_S128x1_d2 h_S_) (Host.gather gather_S128x32768_S128x1x1_S128x1_n_1_0_0_1_2_11 (Host.divf (lowered x) (broadcastInDim S128x32768 ![0, 1] bcast_S128x1_S128x32768_0_1 (broadcastInDim S128x1 ![0] bcast_S128_S128x1_0 (Host.reduceAdd (lowered x) (constant S_ .f32 0x00000000#32) reducesTo_S128x32768_S128_d1 h_S_)))) ix) (broadcastInDim S128x1 ![] bcast_S_S128x1 (constant S_ .f32 0x7FC00000#32)))

theorem select_one {A : Type} (a b : A) : Scalar.select 1#1 a b = a := rfl

theorem picked_read (x : FVec Ideal S128x32768 .f32) (ix : IVec S128x1x1 32) (r : Fin 128) (h : (ix (ix3 r 0 0)).toNat < 32768) :
    picked x ix (ix2 r 0) = lp (fun n => x (ix2 r n)) (clampIx (ix (ix3 r 0 0))) := by
  have hl := fun n => lowered_read x r n
  have key := log_softmax (fun n : Fin 32768 => x (ix2 r n)) (clampIx (ix (ix3 r 0 0))) _ rfl
  unfold picked
  generalize lowered x = y at hl ⊢
  pointwise
  rw [gather_rows]
  pointwise
  rw [fold_one _ (range_test _ h), ← key, select_one, hl, Finset.sum_congr rfl fun n _ => hl n]

/-! ## The bins -/

theorem ref_act2 (V0 : Vals) (r : Fin 128) (h : (actOf V0 (ix2 r 0)).toNat < 32768) :
    res_main_call2_v5 V0 (ix3 r 0 0) = actOf V0 (ix2 r 0) := by
  unfold res_main_call2_v5 res_main_v39 res_main_v5
  clean_types
  pointwise
  exact Routing.wrap_of_lt (w := 32) (actOf V0 (ix2 r 0)) _ (lt_trans h (by norm_num))

theorem ref_act4 (V0 : Vals) (r : Fin 128) (h : (actOf V0 (ix2 r 1)).toNat < 32768) :
    res_main_call4_v5 V0 (ix3 r 0 0) = actOf V0 (ix2 r 1) := by
  unfold res_main_call4_v5 res_main_v91
  clean_types
  pointwise
  exact Routing.wrap_of_lt (w := 32) (actOf V0 (ix2 r 1)) _ (lt_trans h (by norm_num))

/-- The item's weight, spread over the row. -/
theorem ref_weight (V0 : Vals) (r : Fin 128) (n : Fin 32768) (z : Fin 1) (h : (actOf V0 (ix2 r 0)).toNat < 32768) :
    (res_main_v42 V0 : S128x32768x1.Idx → EReal) (ix3 r n z) = stateOf V0 (ix3 r (clampIx (actOf V0 (ix2 r 0))) 1) := by
  have e := ref_act2 V0 r h
  unfold res_main_v42 res_main_v1
  clean_types
  generalize res_main_call2_v5 V0 = ix at e ⊢
  pointwise
  rw [gather_rows]
  pointwise
  rw [e]
  refine (congrArg (fun c => Scalar.select c _ _) (fold_one _ ?_)).trans (select_one _ _)
  rw [e]; exact range_test _ h

theorem ref_item (V0 : Vals) (r : Fin 128) : (res_main_v5 V0 : S128.Idx → BitVec 32) (ix1 r) = actOf V0 (ix2 r 0) := by
  unfold res_main_v5
  clean_types
  pointwise
  rfl

theorem row_word (k : Fin 128) : (BitVec.ofNat 32 k.val).toInt = k.val := by
  have := k.isLt
  rw [BitVec.toInt_eq_toNat_of_lt (by rw [BitVec.toNat_ofNat]; omega), BitVec.toNat_ofNat, Nat.mod_eq_of_lt (by omega)]

theorem item_word (v : BitVec 32) (n : Fin 32768) (h : v.toNat < 32768) : v.toInt = (n.val : ℤ) ↔ n = clampIx v := by
  rw [BitVec.toInt_eq_toNat_of_lt (by omega), Fin.ext_iff, clampIx_val v h]
  omega

theorem ref_binLogit (V0 : Vals) (r : Fin 128) (n : Fin 32768) (h : (actOf V0 (ix2 r 0)).toNat < 32768) :
    (res_main_v79 V0 : S128x32768.Idx → EReal) (ix2 r n) = binLogit (stateOf V0) (V0 (Proc.devRef .tc main_arg5)) (V0 (Proc.devRef .tc main_arg6))
      (V0 (Proc.devRef .tc main_arg7)) (V0 (Proc.devRef .tc main_arg8)) (clampIx (actOf V0 (ix2 r 0))) r n := by
  have e := fun n => ref_weight V0 r n 0 h
  have e5 := ref_item V0 r
  unfold res_main_v79 res_main_v2 res_main_v3 res_main_v50
  clean_types
  generalize res_main_v42 V0 = w at e ⊢
  generalize res_main_v5 V0 = it at e5 ⊢
  pointwise
  rw [scatter_read (v := hide)]
  rotate_left
  · exact fun k => rfl
  · intro k
    pointwise
    exact (congrArg BitVec.toInt (Routing.wrap_of_lt (w := 32) (BitVec.ofNat 32 k.val) _
      (by rw [BitVec.toNat_ofNat]; exact lt_of_le_of_lt (Nat.mod_le _ _) (lt_trans k.isLt (by norm_num))))).trans (row_word k)
  pointwise
  unfold binLogit mlp mask
  refine congrArg₂ (· + ·) (congrArg (· + _) (Finset.sum_congr rfl fun k _ => ?_)) ?_
  · refine congrArg (fun x => max (x + _) 0 * _) ?_
    rw [Fin.sum_univ_three]
    exact congrArg₂ (· + ·) (congrArg₂ (· + ·) (congrArg (· * _) (e n)) rfl) rfl
  · rw [e n, e5, Routing.wrap_of_lt (w := 32) (actOf V0 (ix2 r 0)) _ (lt_trans h (by norm_num))]
    have z : id (constant (F := Ideal) S_ .f32 0#32) ix0 = (0 : EReal) := Ideal.ofBits_zero_f32
    rw [z]
    exact if_congr (item_word _ n h) rfl rfl

/-! ## The result -/

/-- The reference's result, row by row. -/
theorem ref_result (V0 : Vals) (r : Fin 128) (hI : ∀ n, (word (stateOf V0) r n).toNat < 32768) (h0 : (actOf V0 (ix2 r 0)).toNat < 32768)
    (h1 : (actOf V0 (ix2 r 1)).toNat < 32768) :
    shapeCast S128 (addf (picked (res_main_v23 V0) (res_main_call1_v5 V0)) (picked (res_main_v79 V0) (res_main_call4_v5 V0))) shapeCasts_S128x1_S128 (ix1 r)
      = lp (itemLogit (stateOf V0) (V0 (Proc.devRef .tc main_arg1)) (V0 (Proc.devRef .tc main_arg2)) (V0 (Proc.devRef .tc main_arg3))
            (V0 (Proc.devRef .tc main_arg4)) r) (clampIx (actOf V0 (ix2 r 0)))
        + lp (binLogit (stateOf V0) (V0 (Proc.devRef .tc main_arg5)) (V0 (Proc.devRef .tc main_arg6)) (V0 (Proc.devRef .tc main_arg7))
            (V0 (Proc.devRef .tc main_arg8)) (clampIx (actOf V0 (ix2 r 0))) r) (clampIx (actOf V0 (ix2 r 1))) := by
  have a := picked_read (res_main_v23 V0) (res_main_call1_v5 V0) r (by rw [ref_act V0 r h0]; exact h0)
  have b := picked_read (res_main_v79 V0) (res_main_call4_v5 V0) r (by rw [ref_act4 V0 r h1]; exact h1)
  rw [ref_act V0 r h0] at a
  rw [ref_act4 V0 r h1] at b
  generalize picked (res_main_v23 V0) (res_main_call1_v5 V0) = p at a ⊢
  generalize picked (res_main_v79 V0) (res_main_call4_v5 V0) = q at b ⊢
  pointwise
  rw [a, b]
  refine congrArg₂ (· + ·) (congrArg (fun f => lp f _) (funext fun n => ref_logit V0 r n (hI n))) (congrArg (fun f => lp f _) (funext fun n => ref_binLogit V0 r n h0))

end Cert.Proof

end
-- ==== Proof.KernelPlane.lean ====
/-
  The dense kernel's planes read as rows: a plane of 256 × 128 numbers holds the 32768 entries of one row in order.
-/
module

public import proofs.«01_k».proof.Proof.Spec
public import proofs.«01_k».proof.Proof.KernelIdealBody
public import Idealize.ShloMosaic.Lib.Pointwise
public import Idealize.ShloMosaic.Lib.IdealHost

@[expose] public section

noncomputable section

namespace Cert.Proof

open Idealize.ShloMosaic Idealize.ShloMosaic.TcCoe Cert.KernelIdeal Cert.KernelIdeal.Gen Cert.KernelIdeal.Own

/-- The entry of a row that place `(p, q)` of a plane holds. -/
def entry (p : Fin 256) (q : Fin 128) : Fin 32768 := finProdFinEquiv (m := 256) (n := 128) (p, q)

theorem entry_val (p : Fin 256) (q : Fin 128) : (entry p q).val = q.val + 128 * p.val := rfl

/-- Every entry of a row is held in one place of a plane. -/
theorem sum_plane (f : Fin 32768 → EReal) : ∑ p : Fin 256, ∑ q : Fin 128, f (entry p q) = ∑ n, f n :=
  (Fintype.sum_prod_type' (fun p q => f (entry p q))).symm.trans (Equiv.sum_comp (finProdFinEquiv (m := 256) (n := 128)) f)

/-- The plane `a` holds the row `f`. -/
def Holds (a : FVec Ideal S256x128 .f32) (f : Fin 32768 → EReal) : Prop := ∀ p q, a (ix2 p q) = f (entry p q)

theorem total_read (a : FVec Ideal S256x128 .f32) (f : Fin 32768 → EReal) (h : Holds a f) : total a = ∑ n, f n := by
  rw [← sum_plane]
  refine Eq.trans ?_ (Finset.sum_congr rfl fun p _ => Finset.sum_congr rfl fun q _ => h p q)
  unfold total
  pointwise

theorem place_word (v : BitVec 32) (p : Fin 256) (q : Fin 128) (h : v.toNat < 32768) :
    IntOp.cmpi .eq (IntOp.addi (IntOp.muli (BitVec.ofNat 32 p.val) 128#32) (BitVec.ofNat 32 q.val)) v = BitVec.ofBool (decide (entry p q = clampIx v)) := by
  refine congrArg BitVec.ofBool (Bool.eq_iff_iff.2 ?_)
  rw [beq_iff_eq, decide_eq_true_iff, Fin.ext_iff, clampIx_val v h, entry_val, ← BitVec.toNat_inj]
  show ((BitVec.ofNat 32 p.val * 128#32) + BitVec.ofNat 32 q.val).toNat = v.toNat ↔ _
  have := p.isLt
  have := q.isLt
  rw [BitVec.toNat_add, BitVec.toNat_mul, BitVec.toNat_ofNat, BitVec.toNat_ofNat, BitVec.toNat_ofNat]
  omega

theorem hit_read (v : BitVec 32) (p : Fin 256) (q : Fin 128) (h : v.toNat < 32768) :
    hit (F := Ideal) v (ix2 p q) = BitVec.ofBool (decide (entry p q = clampIx v)) := by
  unfold hit
  pointwise
  exact place_word v p q h

/-- Where a word marks one entry, choosing reads as a choice on the entry. -/
theorem choose_read (v : BitVec 32) (p : Fin 256) (q : Fin 128) (h : v.toNat < 32768) (x y : FVec Ideal S256x128 .f32) :
    select (hit (F := Ideal) v) x y (ix2 p q) = if entry p q = clampIx v then x (ix2 p q) else y (ix2 p q) := by
  show Scalar.select (hit (F := Ideal) v (ix2 p q)) _ _ = _
  rw [hit_read v p q h]
  by_cases e : entry p q = clampIx v
  · rw [if_pos e, decide_eq_true e]; rfl
  · rw [if_neg e, decide_eq_false e]; rfl

theorem zeros_read (p : Fin 256) (q : Fin 128) : zeros (F := Ideal) (ix2 p q) = 0 := Ideal.ofBits_zero_f32

/-- The entry a word names, by masking every other and summing. -/
theorem pick_read (v : BitVec 32) (a : FVec Ideal S256x128 .f32) (f : Fin 32768 → EReal) (h : Holds a f) (hv : v.toNat < 32768) :
    total (select (hit (F := Ideal) v) a zeros) = f (clampIx v) := by
  refine (total_read _ (fun n => if n = clampIx v then f n else 0) fun p q => ?_).trans (Fintype.sum_ite_eq' (clampIx v) f)
  rw [choose_read v p q hv, zeros_read, h p q]

/-- The log-probability the kernel takes of a plane's logits. -/
theorem logp_read (v : BitVec 32) (a : FVec Ideal S256x128 .f32) (f : Fin 32768 → EReal) (h : Holds a f) (hv : v.toNat < 32768) :
    logp a (hit (F := Ideal) v) = lp f (clampIx v) := by
  unfold logp lp
  rw [pick_read v a f h hv]
  refine congrArg (fun x : EReal => f (clampIx v) - Ideal.log x) (total_read _ _ fun p q => ?_)
  exact congrArg Ideal.exp (h p q)

/-! ## The networks -/

/-- Thirty-two terms added one after another. -/
theorem all32_sum (g : Fin 32 → EReal) (o : EReal) : all32 (fun acc k => acc + g k) o = ∑ k, g k + o := by
  rw [add_comm]
  unfold all32
  simp only [Fin.sum_univ_castSucc, Fin.sum_univ_zero, zero_add, add_assoc]
  rfl

/-- The accumulation over planes, read at one place. -/
theorem all32_at {A B : Type} (e : A → B) (f : A → Fin 32 → A) (f' : B → Fin 32 → B) (h : ∀ a k, e (f a k) = f' (e a) k) (a : A) :
    e (all32 f a) = all32 f' (e a) := by
  unfold all32
  simp only [h]

theorem at2_eq (k : Fin 32) (b : Fin 3) : at2 k.val b.val k.isLt b.isLt = ix2 k b := by
  funext i; fin_cases i <;> rfl
theorem at1_eq (k : Fin 32) : at1 k.val k.isLt = ix1 k := by
  funext i; fin_cases i; rfl
theorem atR_eq (k : Fin 32) : atR k.val k.isLt = ix2 0 k := by
  funext i; fin_cases i <;> rfl
theorem atO_eq : atO = ix1 0 := by
  funext i; fin_cases i; rfl

theorem accI_read (a b c : FVec Ideal S256x128 .f32) (w : S32x3.Idx → EReal) (bb : S32.Idx → EReal) (v : S1x32.Idx → EReal) (o : S1.Idx → EReal)
    (p : Fin 256) (q : Fin 128) : accI (F := Ideal) a b c w bb v o (ix2 p q) = mlp (a (ix2 p q)) (b (ix2 p q)) (c (ix2 p q)) w bb v o := by
  unfold accI mlp
  refine (all32_at (fun x : FVec Ideal S256x128 .f32 => (x (ix2 p q) : EReal)) _ (fun acc k => acc
    + max (a (ix2 p q) * w (ix2 k 0) + b (ix2 p q) * w (ix2 k 1) + c (ix2 p q) * w (ix2 k 2) + bb (ix1 k)) 0 * v (ix2 0 k)) (fun x k => ?_) _).trans ?_
  · rw [← at2_eq k 0, ← at2_eq k 1, ← at2_eq k 2, ← at1_eq k, ← atR_eq k, ← zeros_read p q]
    rfl
  · rw [all32_sum, ← atO_eq]
    rfl

theorem accB_read (s : EReal) (b c : FVec Ideal S256x128 .f32) (w : S32x3.Idx → EReal) (bb : S32.Idx → EReal) (v : S1x32.Idx → EReal) (o : S1.Idx → EReal)
    (p : Fin 256) (q : Fin 128) : accB (F := Ideal) s b c w bb v o (ix2 p q) = mlp s (b (ix2 p q)) (c (ix2 p q)) w bb v o := by
  unfold accB mlp
  refine (all32_at (fun x : FVec Ideal S256x128 .f32 => (x (ix2 p q) : EReal)) _ (fun acc k => acc
    + max (s * w (ix2 k 0) + b (ix2 p q) * w (ix2 k 1) + c (ix2 p q) * w (ix2 k 2) + bb (ix1 k)) 0 * v (ix2 0 k)) (fun x k => ?_) _).trans ?_
  · have e (x y z t : EReal) : x + y + z + t = (y + z) + (t + x) := by rw [add_assoc x y z, add_assoc, add_comm x, add_assoc]
    rw [e, ← at2_eq k 0, ← at2_eq k 1, ← at2_eq k 2, ← at1_eq k, ← atR_eq k, ← zeros_read p q]
    rfl
  · rw [all32_sum, ← atO_eq]
    rfl

/-- The mask the kernel adds, where the item is `v`. -/
theorem maskB_read (s : EReal) (fc acc : FVec Ideal S256x128 .f32) (v : BitVec 32) (hv : v.toNat < 32768) (p : Fin 256) (q : Fin 128) :
    maskB (F := Ideal) s fc acc (hit (F := Ideal) v) (ix2 p q)
      = acc (ix2 p q) + (if entry p q = clampIx v then hide else if 0 < s - fc (ix2 p q) then hide else 0) := by
  refine congrArg (fun x : EReal => acc (ix2 p q) + x) ?_
  show Scalar.select (IntOp.ori (Ideal.cmp .ogt (s - fc (ix2 p q)) (zeros (F := Ideal) (ix2 p q))) (hit (F := Ideal) v (ix2 p q))) hide (zeros (F := Ideal) (ix2 p q)) = _
  rw [zeros_read, hit_read v p q hv]
  show Scalar.select (IntOp.ori (BitVec.ofBool (decide (0 < s - fc (ix2 p q)))) _) hide 0 = _
  by_cases e : entry p q = clampIx v <;> by_cases l : 0 < s - fc (ix2 p q)
  · rw [if_pos e, decide_eq_true e, decide_eq_true l]; rfl
  · rw [if_pos e, decide_eq_true e, decide_eq_false l]; rfl
  · rw [if_neg e, if_pos l, decide_eq_false e, decide_eq_true l]; rfl
  · rw [if_neg e, if_neg l, decide_eq_false e, decide_eq_false l]; rfl

end Cert.Proof
end
-- ==== Proof.KernelReads.lean ====
/-
  The kernel's result read at an index.
-/
module

public import proofs.«01_k».proof.Proof.KernelPlane
public import proofs.«01_k».proof.Proof.KernelIdealEnd

@[expose] public section

noncomputable section

namespace Cert.Proof

open Idealize.ShloMosaic Idealize.ShloMosaic.TcCoe Cert.KernelIdeal Cert.KernelIdeal.Gen Cert.KernelIdeal.Own
open Idealize.ShloMosaic.Tactic

section Blocks

variable (V : (c : Dev nD) → (b : Ref sig .tc) → Buf (Elt Ideal) ((c : Thread nD τ).loc b)) (c : Dev nD)

/-- The grid point of a row. -/
abbrev pt (r : Fin 128) : Fin cfg1.N := ptOf (ix3 r 0 0)

theorem index_0 (t : Fin cfg1.N) : win1_0.index t 0 = t.val ∧ win1_0.index t 1 = 0 ∧ win1_0.index t 2 = 0 := by revert t; decide +kernel
theorem index_1 (t : Fin cfg1.N) : win1_1.index t 0 = t.val ∧ win1_1.index t 1 = 0 ∧ win1_1.index t 2 = 0 := by revert t; decide +kernel
theorem index_2 (t : Fin cfg1.N) : win1_2.index t 0 = t.val ∧ win1_2.index t 1 = 0 ∧ win1_2.index t 2 = 0 := by revert t; decide +kernel
theorem index_3 (t : Fin cfg1.N) : win1_3.index t 0 = t.val ∧ win1_3.index t 1 = 0 ∧ win1_3.index t 2 = 0 := by revert t; decide +kernel
theorem index_4 (t : Fin cfg1.N) : win1_4.index t 0 = t.val ∧ win1_4.index t 1 = 0 ∧ win1_4.index t 2 = 0 := by revert t; decide +kernel

theorem blk_0 (r : Fin 128) (a : Fin 2) : iblk V c 0 (pt r) (ix3 0 0 a) = (V c main_v14 : S128x1x2.Idx → BitVec 32) (ix3 r 0 a) := by
  obtain ⟨h0, h1, h2⟩ := index_0 (pt r)
  blk_ext [iblk, h0, h1, h2]
  rfl
theorem blk_1 (r : Fin 128) (p : Fin 256) (q : Fin 128) : iblk V c 1 (pt r) (ix3 0 p q) = (V c main_v10 : S128x256x128.Idx → EReal) (ix3 r p q) := by
  obtain ⟨h0, h1, h2⟩ := index_1 (pt r)
  blk_ext [iblk, h0, h1, h2]
  rfl
theorem blk_2 (r : Fin 128) (p : Fin 256) (q : Fin 128) : iblk V c 2 (pt r) (ix3 0 p q) = (V c main_v11 : S128x256x128.Idx → EReal) (ix3 r p q) := by
  obtain ⟨h0, h1, h2⟩ := index_2 (pt r)
  blk_ext [iblk, h0, h1, h2]
  rfl
theorem blk_3 (r : Fin 128) (p : Fin 256) (q : Fin 128) : iblk V c 3 (pt r) (ix3 0 p q) = (V c main_v12 : S128x256x128.Idx → EReal) (ix3 r p q) := by
  obtain ⟨h0, h1, h2⟩ := index_3 (pt r)
  blk_ext [iblk, h0, h1, h2]
  rfl
theorem blk_4 (r : Fin 128) (p : Fin 256) (q : Fin 128) : iblk V c 4 (pt r) (ix3 0 p q) = (V c main_v13 : S128x256x128.Idx → EReal) (ix3 r p q) := by
  obtain ⟨h0, h1, h2⟩ := index_4 (pt r)
  blk_ext [iblk, h0, h1, h2]
  rfl
theorem index_5 (t : Fin cfg1.N) : ∀ a, win1_5.index t a = 0 := by revert t; decide +kernel
theorem blk_5 (r : Fin 128) : iblk V c 5 (pt r) = V c main_arg1 := by
  have h := index_5 (pt r)
  funext j
  blk_ext [iblk, h]
theorem index_6 (t : Fin cfg1.N) : ∀ a, win1_6.index t a = 0 := by revert t; decide +kernel
theorem blk_6 (r : Fin 128) : iblk V c 6 (pt r) = V c main_arg2 := by
  have h := index_6 (pt r)
  funext j
  blk_ext [iblk, h]
theorem index_7 (t : Fin cfg1.N) : ∀ a, win1_7.index t a = 0 := by revert t; decide +kernel
theorem blk_7 (r : Fin 128) : iblk V c 7 (pt r) = V c main_arg3 := by
  have h := index_7 (pt r)
  funext j
  blk_ext [iblk, h]
theorem index_8 (t : Fin cfg1.N) : ∀ a, win1_8.index t a = 0 := by revert t; decide +kernel
theorem blk_8 (r : Fin 128) : iblk V c 8 (pt r) = V c main_arg4 := by
  have h := index_8 (pt r)
  funext j
  blk_ext [iblk, h]
theorem index_9 (t : Fin cfg1.N) : ∀ a, win1_9.index t a = 0 := by revert t; decide +kernel
theorem blk_9 (r : Fin 128) : iblk V c 9 (pt r) = V c main_arg5 := by
  have h := index_9 (pt r)
  funext j
  blk_ext [iblk, h]
theorem index_10 (t : Fin cfg1.N) : ∀ a, win1_10.index t a = 0 := by revert t; decide +kernel
theorem blk_10 (r : Fin 128) : iblk V c 10 (pt r) = V c main_arg6 := by
  have h := index_10 (pt r)
  funext j
  blk_ext [iblk, h]
theorem index_11 (t : Fin cfg1.N) : ∀ a, win1_11.index t a = 0 := by revert t; decide +kernel
theorem blk_11 (r : Fin 128) : iblk V c 11 (pt r) = V c main_arg7 := by
  have h := index_11 (pt r)
  funext j
  blk_ext [iblk, h]
theorem index_12 (t : Fin cfg1.N) : ∀ a, win1_12.index t a = 0 := by revert t; decide +kernel
theorem blk_12 (r : Fin 128) : iblk V c 12 (pt r) = V c main_arg8 := by
  have h := index_12 (pt r)
  funext j
  blk_ext [iblk, h]

theorem plane_1 (r : Fin 128) (p : Fin 256) (q : Fin 128) :
    plane (F := Ideal) (iblk V c 1 (pt r)) (ix2 p q) = (V c main_v10 : S128x256x128.Idx → EReal) (ix3 r p q) := by
  refine Eq.trans ?_ (blk_1 V c r p q)
  unfold plane
  pointwise
theorem plane_2 (r : Fin 128) (p : Fin 256) (q : Fin 128) :
    plane (F := Ideal) (iblk V c 2 (pt r)) (ix2 p q) = (V c main_v11 : S128x256x128.Idx → EReal) (ix3 r p q) := by
  refine Eq.trans ?_ (blk_2 V c r p q)
  unfold plane
  pointwise
theorem plane_3 (r : Fin 128) (p : Fin 256) (q : Fin 128) :
    plane (F := Ideal) (iblk V c 3 (pt r)) (ix2 p q) = (V c main_v12 : S128x256x128.Idx → EReal) (ix3 r p q) := by
  refine Eq.trans ?_ (blk_3 V c r p q)
  unfold plane
  pointwise
theorem plane_4 (r : Fin 128) (p : Fin 256) (q : Fin 128) :
    plane (F := Ideal) (iblk V c 4 (pt r)) (ix2 p q) = (V c main_v13 : S128x256x128.Idx → EReal) (ix3 r p q) := by
  refine Eq.trans ?_ (blk_4 V c r p q)
  unfold plane
  pointwise

end Blocks

section Inputs
variable (m : (ℓ : Loc nD τ sig) → Buf (Elt Ideal) ℓ) (d : Dev nD)

/-- The state's array on device `d`. -/
abbrev st : S128x32768x4.Idx → EReal := m (d, dr main_arg0)
/-- The actions' array on device `d`. -/
abbrev ac : S128x2.Idx → BitVec 32 := m (d, dr main_arg9)

theorem place_eq (p : Fin 256) (q : Fin 128) (h : p.val * 128 + q.val < 32768) : (⟨p.val * 128 + q.val, h⟩ : Fin 32768) = entry p q := by
  refine Fin.ext ?_
  rw [entry_val]
  show p.val * 128 + q.val = _
  omega

theorem v10_read (r : Fin 128) (p : Fin 256) (q : Fin 128) :
    (VIn m d main_v10 : S128x256x128.Idx → EReal) (ix3 r p q) = st m d (ix3 r (entry p q) 1) := by
  rw [in_v10]
  unfold col1 state
  pointwise
  rw [place_eq]

theorem v11_read (r : Fin 128) (p : Fin 256) (q : Fin 128) :
    (VIn m d main_v11 : S128x256x128.Idx → EReal) (ix3 r p q) = st m d (ix3 r (entry p q) 2) := by
  rw [in_v11]
  unfold col2 state
  pointwise
  rw [place_eq]

theorem v12_read (r : Fin 128) (p : Fin 256) (q : Fin 128) :
    (VIn m d main_v12 : S128x256x128.Idx → EReal) (ix3 r p q) = st m d (ix3 r (entry p q) 3) := by
  rw [in_v12]
  unfold col3 state
  pointwise
  rw [place_eq]

theorem v13_read (r : Fin 128) (p : Fin 256) (q : Fin 128) (h : (word (st m d) r (entry p q)).toNat < 32768) :
    (VIn m d main_v13 : S128x256x128.Idx → EReal) (ix3 r p q) = st m d (ix3 r (clampIx (word (st m d) r (entry p q))) 2) := by
  rw [in_v13]
  unfold col2 col0 state gath
  pointwise
  rw [place_eq]
  refine congrArg (fun n : Fin 32768 => st m d (ix3 r n 2)) (Fin.ext ?_)
  rw [clampIx_val _ h]
  exact Nat.mod_eq_of_lt h

theorem v14_read (r : Fin 128) (a : Fin 2) : (VIn m d main_v14 : S128x1x2.Idx → BitVec 32) (ix3 r 0 a) = ac m d (ix2 r a) := by
  rw [in_v14]
  pointwise

/-! ## The result -/

theorem atA_eq (a : Fin 2) : atA a.val a.isLt = ix3 0 0 a := by
  funext i; fin_cases i <;> rfl

theorem act_read (r : Fin 128) (a : Fin 2) : iblk (VIn m) d 0 (pt r) (atA a.val a.isLt) = ac m d (ix2 r a) := by
  rw [atA_eq]
  exact (blk_0 (VIn m) d r a).trans (v14_read m d r a)

theorem holds_1 (r : Fin 128) : Holds (plane (F := Ideal) (iblk (VIn m) d 1 (pt r))) (fun n => st m d (ix3 r n 1)) :=
  fun p q => (plane_1 (VIn m) d r p q).trans (v10_read m d r p q)
theorem holds_2 (r : Fin 128) : Holds (plane (F := Ideal) (iblk (VIn m) d 2 (pt r))) (fun n => st m d (ix3 r n 2)) :=
  fun p q => (plane_2 (VIn m) d r p q).trans (v11_read m d r p q)
theorem holds_3 (r : Fin 128) : Holds (plane (F := Ideal) (iblk (VIn m) d 3 (pt r))) (fun n => st m d (ix3 r n 3)) :=
  fun p q => (plane_3 (VIn m) d r p q).trans (v12_read m d r p q)
theorem holds_4 (r : Fin 128) (hI : ∀ n, (word (st m d) r n).toNat < 32768) :
    Holds (plane (F := Ideal) (iblk (VIn m) d 4 (pt r))) (fun n => st m d (ix3 r (clampIx (word (st m d) r n)) 2)) :=
  fun p q => (plane_4 (VIn m) d r p q).trans (v13_read m d r p q (hI _))

/-- The sum of two log-probabilities one grid point computes, of planes that hold the row's entries. -/
theorem out_read (x0 : S1x1x2.Idx → BitVec 32) (x1 x2 x3 x4 : S1x256x128.Idx → EReal) (w1 : S32x3.Idx → EReal) (b1 : S32.Idx → EReal) (v1 : S1x32.Idx → EReal)
    (o1 : S1.Idx → EReal) (w2 : S32x3.Idx → EReal) (b2 : S32.Idx → EReal) (v2 : S1x32.Idx → EReal) (o2 : S1.Idx → EReal)
    (s : S128x32768x4.Idx → EReal) (r : Fin 128) (i j : BitVec 32) (hi : i.toNat < 32768) (hj : j.toNat < 32768)
    (e0 : x0 (atA 0 (by decide)) = i) (e1 : x0 (atA 1 (by decide)) = j)
    (h1 : Holds (plane (F := Ideal) x1) (fun n => s (ix3 r n 1))) (h2 : Holds (plane (F := Ideal) x2) (fun n => s (ix3 r n 2)))
    (h3 : Holds (plane (F := Ideal) x3) (fun n => s (ix3 r n 3))) (h4 : Holds (plane (F := Ideal) x4) (fun n => s (ix3 r (clampIx (word s r n)) 2))) :
    tcOut (F := Ideal) x0 x1 x2 x3 x4 w1 b1 v1 o1 w2 b2 v2 o2
      = lp (itemLogit s w1 b1 v1 o1 r) (clampIx i) + lp (binLogit s w2 b2 v2 o2 (clampIx i) r) (clampIx j) := by
  unfold tcOut
  rw [e0, e1, pick_read i _ _ h1 hi]
  refine congrArg₂ (fun a b : EReal => a + b) (logp_read i _ _ (fun p q => ?_) hi) (logp_read j _ _ (fun p q => ?_) hj)
  · rw [accI_read, h1 p q, h4 p q, h3 p q]
    rfl
  · rw [maskB_read _ _ _ i hi, accB_read, h2 p q, h3 p q]
    rfl

/-- The kernel's result, row by row. -/
theorem kernel_result (r : Fin 128) (hI : ∀ n, (word (st m d) r n).toNat < 32768) (h0 : (ac m d (ix2 r 0)).toNat < 32768)
    (h1 : (ac m d (ix2 r 1)).toNat < 32768) :
    shapeCast S128 (arrOut (VIn m) d) shapeCasts_S128x1x1_S128 (ix1 r)
      = lp (itemLogit (st m d) (m (d, dr main_arg1)) (m (d, dr main_arg2)) (m (d, dr main_arg3)) (m (d, dr main_arg4)) r) (clampIx (ac m d (ix2 r 0)))
        + lp (binLogit (st m d) (m (d, dr main_arg5)) (m (d, dr main_arg6)) (m (d, dr main_arg7)) (m (d, dr main_arg8)) (clampIx (ac m d (ix2 r 0))) r)
            (clampIx (ac m d (ix2 r 1))) := by
  have e : shapeCast S128 (arrOut (VIn m) d) shapeCasts_S128x1x1_S128 (ix1 r) = ptOut (VIn m) d (pt r) := by
    pointwise
    rfl
  rw [e]
  unfold ptOut
  rw [blk_5, blk_6, blk_7, blk_8, blk_9, blk_10, blk_11, blk_12,
    in_arg m d main_arg1 (by decide) (by decide) (by decide), in_arg m d main_arg2 (by decide) (by decide) (by decide),
    in_arg m d main_arg3 (by decide) (by decide) (by decide), in_arg m d main_arg4 (by decide) (by decide) (by decide),
    in_arg m d main_arg5 (by decide) (by decide) (by decide), in_arg m d main_arg6 (by decide) (by decide) (by decide),
    in_arg m d main_arg7 (by decide) (by decide) (by decide), in_arg m d main_arg8 (by decide) (by decide) (by decide)]
  exact out_read _ _ _ _ _ _ _ _ _ _ _ _ _ (st m d) r _ _ h0 h1 (act_read m d r 0) (act_read m d r 1) (holds_1 m d r) (holds_2 m d r) (holds_3 m d r)
    (holds_4 m d r hI)

end Inputs

end Cert.Proof
end
-- ==== Proof.Algebraic.lean ====
/-
  The kernel and the reference agree over the extended reals.
-/
module

public import proofs.«01_k».proof.Proof.Ranges
public import proofs.«01_k».proof.Proof.RefReads
public import proofs.«01_k».proof.Proof.KernelReads

@[expose] public section

noncomputable section

namespace Cert.Proof

open Idealize.ShloMosaic Idealize.ShloMosaic.TcCoe Idealize.SL.Sem

section Kernel

open Cert.KernelIdeal Cert.KernelIdeal.Gen Cert.KernelIdeal.Own

/-- The kernel's run: its result and its arguments. -/
theorem kernel_run (m : (ℓ : Loc nD τ sig) → Buf (Elt Ideal) ℓ) (g : Dev nD → PrngReg) (hI : ∀ d j, (ixOf m d j).toNat < 32768) :
    θ_run (Cert.KernelIdeal.defs (F := Ideal)) (Cert.KernelIdeal.threads (F := Ideal)) ⟨m, fun _ => 0, g⟩ (fun r => ∀ c : Dev nD,
      r.2.mem ((c.tc : Thread nD τ).loc main_v16) = shapeCast S128 (arrOut (VIn m) c) shapeCasts_S128x1x1_S128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run Cert.KernelIdeal.defs _ _).mono (fun _ h c => ⟨(h.1 c (dr main_v16) (StableHlo.devRef_mem_ucRefs _ (by decide))).trans (result_eq m c),
      (h.1 c (dr main_arg0) (StableHlo.devRef_mem_ucRefs _ (by decide))).trans (end_arg0 m c),
      (h.1 c (dr main_arg1) (StableHlo.devRef_mem_ucRefs _ (by decide))).trans (end_arg1 m c),
      (h.1 c (dr main_arg2) (StableHlo.devRef_mem_ucRefs _ (by decide))).trans (end_arg2 m c),
      (h.1 c (dr main_arg3) (StableHlo.devRef_mem_ucRefs _ (by decide))).trans (end_arg3 m c),
      (h.1 c (dr main_arg4) (StableHlo.devRef_mem_ucRefs _ (by decide))).trans (end_arg4 m c),
      (h.1 c (dr main_arg5) (StableHlo.devRef_mem_ucRefs _ (by decide))).trans (end_arg5 m c),
      (h.1 c (dr main_arg6) (StableHlo.devRef_mem_ucRefs _ (by decide))).trans (end_arg6 m c),
      (h.1 c (dr main_arg7) (StableHlo.devRef_mem_ucRefs _ (by decide))).trans (end_arg7 m c),
      (h.1 c (dr main_arg8) (StableHlo.devRef_mem_ucRefs _ (by decide))).trans (end_arg8 m c),
      (h.1 c (dr main_arg9) (StableHlo.devRef_mem_ucRefs _ (by decide))).trans (end_arg9 m c)⟩)
    (run_main m g hI)

/-- The item numbers are in range where the words the gather uses are. -/
theorem word_ok (m : (ℓ : Loc nD τ sig) → Buf (Elt Ideal) ℓ) (d : Dev nD) (hI : ∀ j, (ixOf m d j).toNat < 32768) (r : Fin 128) (n : Fin 32768) :
    (word (st m d) r n).toNat < 32768 := by
  have h := hI (ix2 r n)
  rw [ixOf_eq] at h
  have e : fptosi (F := Ideal) (φ := .f32) 32 (col0 (state m d)) (ix2 r n) = word (st m d) r n := by
    unfold col0
    pointwise
    rfl
  rw [e] at h
  exact h

end Kernel

section Reference

open Cert.ReferenceIdeal Cert.ReferenceIdeal.Gen Cert.ReferenceIdeal.Value Idealize.ShloMosaic.StableHlo

/-- The array the reference ends with. -/
def refOut (V0 : Vals) : S128.Idx → EReal :=
  shapeCast S128 (addf (picked (res_main_v23 V0) (res_main_call1_v5 V0)) (picked (res_main_v79 V0) (res_main_call4_v5 V0))) shapeCasts_S128x1_S128

/-- The reference's run: its result and its arguments. -/
theorem reference_run (m : (ℓ : Loc nD τ sig) → Buf (Elt Ideal) ℓ) (g : Dev nD → PrngReg) :
    θ_run (Cert.ReferenceIdeal.defs (F := Ideal)) (onTc (τ := τ) (main (F := Ideal))) ⟨m, fun _ => 0, g⟩ (fun r => ∀ c : Dev nD,
      r.2.mem ((c.tc : Thread nD τ).loc main_v95) = refOut (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Cert.ReferenceIdeal.Value.run (F := Ideal) m g

end Reference

theorem congr_four {A B C D E : Type} (f : A → B → C → D → E) {a a' : A} {b b' : B} {c c' : C} {d d' : D} (ha : a = a') (hb : b = b') (hc : c = c')
    (hd : d = d') : f a b c d = f a' b' c' d' := by
  subst ha hb hc hd; rfl

/-- From equal arguments in range, the kernel and the reference leave equal results. -/
theorem algebraic : Cert.algebraic_KernelIdeal_ReferenceIdeal_pre_in_range := by
  intro m g m' g' hpre hargs
  have hs := fun d => in_range_split _ _ _ _ _ _ _ _ _ _ (hpre d)
  have hI : ∀ d j, (Cert.KernelIdeal.Own.ixOf m d j).toNat < 32768 := fun d j =>
    Cert.KernelIdeal.Own.rows_ok (F := Ideal) m d _ _ _ _ _ _ _ _ _ (hs d).1 j
  refine ⟨fun c => shapeCast Cert.KernelIdeal.S128 (Cert.KernelIdeal.Own.arrOut (Cert.KernelIdeal.Own.VIn m) c) Cert.KernelIdeal.Gen.shapeCasts_S128x1x1_S128,
    kernel_run m g hI, (θ_run _ _ _).mono (fun r h c => ⟨(h c).1.trans ?_, (h c).2⟩) (reference_run m' g')⟩
  obtain ⟨a0, a1, a2, a3, a4, a5, a6, a7, a8, a9⟩ := hargs c
  funext j
  obtain ⟨b, rfl⟩ : ∃ b : Fin 128, j = ix1 b := ⟨j 0, eq_ix1 j⟩
  have hw := word_ok m c (hI c) b
  have e0 : stateOf (StableHlo.launchContents m' c) = st m c := a0
  have e9 : actOf (StableHlo.launchContents m' c) = ac m c := a9
  have k := kernel_result m c b hw ((hs c).2 (ix2 b 0)) ((hs c).2 (ix2 b 1))
  have q := ref_result (StableHlo.launchContents m' c) b (by rw [e0]; exact hw) (by rw [e9]; exact (hs c).2 (ix2 b 0)) (by rw [e9]; exact (hs c).2 (ix2 b 1))
  rw [e0, e9] at q
  refine (q.trans ?_).trans k.symm
  exact congrArg₂ (fun x y : EReal => x + y)
    (congr_four (fun w b' v o => lp (itemLogit (st m c) w b' v o b) (clampIx (ac m c (ix2 b 0)))) a1 a2 a3 a4)
    (congr_four (fun w b' v o => lp (binLogit (st m c) w b' v o (clampIx (ac m c (ix2 b 0))) b) (clampIx (ac m c (ix2 b 1)))) a5 a6 a7 a8)

end Cert.Proof

end
-- ==== Proof.lean ====
module

public import proofs.«01_k».proof.Defs
public import proofs.«01_k».proof.Proof.Frames
public import proofs.«01_k».proof.Proof.Ranges
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_rows_in_range.Gen.facts, Cert.Pre_in_range.Gen.facts,
    frame_kernel, frame_ideal, frame_ideal_in_range, frame_reference, frame_reference_in_range, trivial, algebraic⟩

end Cert.Proof

end
